-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S512x2048 : Shape := ⟨2, ![512, 2048]⟩
abbrev S7x2x2048 : Shape := ⟨3, ![7, 2, 2048]⟩
abbrev S7 : Shape := ⟨1, ![7]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1 : Shape := ⟨1, ![1]⟩
abbrev S1x2x2048 : Shape := ⟨3, ![1, 2, 2048]⟩

abbrev nBuf : Space → Nat
  | .hbm => 4
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .bf16⟩
  | .hbm, ⟨3, _⟩ => ⟨S2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2x2048, .f32⟩
  | .local _ .vmem, ⟨9, _⟩ => ⟨S2x2048, .f32⟩
  | .local _ .vmem, ⟨10, _⟩ => ⟨S7x2x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v90 : BitVec 32 := Scalar.addi v2 c1_i32_30
  let c8_i32_31 : BitVec 32 := 8#32
  let v91 : BitVec 32 := Scalar.remsi v90 c8_i32_31
  let c1_i32_33 : BitVec 32 := 1#32
  let v92 : BitVec 32 := Scalar.muli v91 c1_i32_33
  let v93 : BitVec 32 := Scalar.addi c0_i32_34 v92
  v93.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v94 : BitVec 32 := Scalar.addi v2 c2_i32
  let c8_i32_35 : BitVec 32 := 8#32
  let v95 : BitVec 32 := Scalar.remsi v94 c8_i32_35
  let c1_i32_37 : BitVec 32 := 1#32
  let v96 : BitVec 32 := Scalar.muli v95 c1_i32_37
  let v97 : BitVec 32 := Scalar.addi c0_i32_38 v96
  v97.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_39 : BitVec 32 := 3#32
  let v98 : BitVec 32 := Scalar.addi v2 c3_i32_39
  let c8_i32_40 : BitVec 32 := 8#32
  let v99 : BitVec 32 := Scalar.remsi v98 c8_i32_40
  let c1_i32_42 : BitVec 32 := 1#32
  let v100 : BitVec 32 := Scalar.muli v99 c1_i32_42
  let v101 : BitVec 32 := Scalar.addi c0_i32_43 v100
  v101.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v102 : BitVec 32 := Scalar.addi v2 c4_i32
  let c8_i32_44 : BitVec 32 := 8#32
  let v103 : BitVec 32 := Scalar.remsi v102 c8_i32_44
  let c1_i32_46 : BitVec 32 := 1#32
  let v104 : BitVec 32 := Scalar.muli v103 c1_i32_46
  let v105 : BitVec 32 := Scalar.addi c0_i32_47 v104
  v105.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v106 : BitVec 32 := Scalar.addi v2 c5_i32
  let c8_i32_48 : BitVec 32 := 8#32
  let v107 : BitVec 32 := Scalar.remsi v106 c8_i32_48
  let c1_i32_50 : BitVec 32 := 1#32
  let v108 : BitVec 32 := Scalar.muli v107 c1_i32_50
  let v109 : BitVec 32 := Scalar.addi c0_i32_51 v108
  v109.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v110 : BitVec 32 := Scalar.addi v2 c6_i32
  let c8_i32_52 : BitVec 32 := 8#32
  let v111 : BitVec 32 := Scalar.remsi v110 c8_i32_52
  let c1_i32_54 : BitVec 32 := 1#32
  let v112 : BitVec 32 := Scalar.muli v111 c1_i32_54
  let v113 : BitVec 32 := Scalar.addi c0_i32_55 v112
  v113.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v114 : BitVec 32 := Scalar.addi v2 c7_i32
  let c8_i32_56 : BitVec 32 := 8#32
  let v115 : BitVec 32 := Scalar.remsi v114 c8_i32_56
  let c1_i32_58 : BitVec 32 := 1#32
  let v116 : BitVec 32 := Scalar.muli v115 c1_i32_58
  let v117 : BitVec 32 := Scalar.addi c0_i32_59 v116
  v117.toNat
def k0_cond2 (i : grid0.Coords) : BitVec 1 :=
  let arg0 : BitVec 32 := BitVec.ofNat 32 (i 0).val
  let c3_i32 : BitVec 32 := 3#32
  let v86 : BitVec 1 := Scalar.cmpi .eq arg0 c3_i32
  let v87 : BitVec 32 := Scalar.extui v86
  let c0_i32_29 : BitVec 32 := 0#32
  let v88 : BitVec 1 := Scalar.cmpi .ne v87 c0_i32_29
  v88

def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v89 : BitVec 32 := Scalar.addi v2 c1_i32_30
  let c8_i32_31 : BitVec 32 := 8#32
  let v90 : BitVec 32 := Scalar.remsi v89 c8_i32_31
  let c1_i32_35 : BitVec 32 := 1#32
  let v91 : BitVec 32 := Scalar.muli v90 c1_i32_35
  let v92 : BitVec 32 := Scalar.addi c0_i32_36 v91
  v92.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v99 : BitVec 32 := Scalar.addi v2 c2_i32
  let c8_i32_39 : BitVec 32 := 8#32
  let v100 : BitVec 32 := Scalar.remsi v99 c8_i32_39
  let c1_i32_43 : BitVec 32 := 1#32
  let v101 : BitVec 32 := Scalar.muli v100 c1_i32_43
  let v102 : BitVec 32 := Scalar.addi c0_i32_44 v101
  v102.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v109 : BitVec 32 := Scalar.addi v2 c3_i32_47
  let c8_i32_48 : BitVec 32 := 8#32
  let v110 : BitVec 32 := Scalar.remsi v109 c8_i32_48
  let c1_i32_52 : BitVec 32 := 1#32
  let v111 : BitVec 32 := Scalar.muli v110 c1_i32_52
  let v112 : BitVec 32 := Scalar.addi c0_i32_53 v111
  v112.toNat
def k0_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v119 : BitVec 32 := Scalar.addi v2 c4_i32
  let c8_i32_56 : BitVec 32 := 8#32
  let v120 : BitVec 32 := Scalar.remsi v119 c8_i32_56
  let c1_i32_60 : BitVec 32 := 1#32
  let v121 : BitVec 32 := Scalar.muli v120 c1_i32_60
  let v122 : BitVec 32 := Scalar.addi c0_i32_61 v121
  v122.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v129 : BitVec 32 := Scalar.addi v2 c5_i32
  let c8_i32_64 : BitVec 32 := 8#32
  let v130 : BitVec 32 := Scalar.remsi v129 c8_i32_64
  let c1_i32_68 : BitVec 32 := 1#32
  let v131 : BitVec 32 := Scalar.muli v130 c1_i32_68
  let v132 : BitVec 32 := Scalar.addi c0_i32_69 v131
  v132.toNat
def k0_dev13 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v139 : BitVec 32 := Scalar.addi v2 c6_i32
  let c8_i32_72 : BitVec 32 := 8#32
  let v140 : BitVec 32 := Scalar.remsi v139 c8_i32_72
  let c1_i32_76 : BitVec 32 := 1#32
  let v141 : BitVec 32 := Scalar.muli v140 c1_i32_76
  let v142 : BitVec 32 := Scalar.addi c0_i32_77 v141
  v142.toNat
def k0_dev14 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v149 : BitVec 32 := Scalar.addi v2 c7_i32
  let c8_i32_80 : BitVec 32 := 8#32
  let v150 : BitVec 32 := Scalar.remsi v149 c8_i32_80
  let c1_i32_84 : BitVec 32 := 1#32
  let v151 : BitVec 32 := Scalar.muli v150 c1_i32_84
  let v152 : BitVec 32 := Scalar.addi c0_i32_85 v151
  v152.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S32768x1, .bf16⟩
  | .hbm, ⟨11, _⟩ => ⟨S_, .i32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S32768x1, .bf16⟩
  | .hbm, ⟨36, _⟩ => ⟨S32768x1, .bf16⟩
  | .hbm, ⟨37, _⟩ => ⟨S_, .bf16⟩
  | .hbm, ⟨38, _⟩ => ⟨S32768x1, .bf16⟩
  | .hbm, ⟨39, _⟩ => ⟨S32768x1, .bf16⟩
  | .hbm, ⟨40, _⟩ => ⟨S32768x1, .bf16⟩
  | .hbm, ⟨41, _⟩ => ⟨S_, .bf16⟩
  | .hbm, ⟨42, _⟩ => ⟨S32768x1, .bf16⟩
  | .hbm, ⟨43, _⟩ => ⟨S32768x1, .bf16⟩
  | .hbm, ⟨44, _⟩ => ⟨S32768x2048, .bf16⟩
  | .hbm, ⟨45, _⟩ => ⟨S32768x2048, .bf16⟩
  | .hbm, ⟨46, _⟩ => ⟨S32768x2048, .bf16⟩
  | .hbm, ⟨47, _⟩ => ⟨S32768x2048, .bf16⟩
  | .hbm, ⟨48, _⟩ => ⟨S32768x2048, .bf16⟩
  | .hbm, ⟨49, _⟩ => ⟨S32768x2048, .f32⟩
  | .hbm, ⟨50, _⟩ => ⟨S_, .f32⟩
  | .hbm, ⟨51, _⟩ => ⟨S2048, .f32⟩
  | .hbm, ⟨52, _⟩ => ⟨S2048, .bf16⟩
  | .hbm, ⟨53, _⟩ => ⟨S32768x2048, .f32⟩
  | .hbm, ⟨54, _⟩ => ⟨S_, .f32⟩
  | .hbm, ⟨55, _⟩ => ⟨S2048, .f32⟩
  | .hbm, ⟨56, _⟩ => ⟨S2048, .bf16⟩
  | .hbm, ⟨57, _⟩ => ⟨S1x2048, .bf16⟩
  | .hbm, ⟨58, _⟩ => ⟨S1x2048, .bf16⟩
  | .hbm, ⟨59, _⟩ => ⟨S2x2048, .bf16⟩
  | .hbm, ⟨60, _⟩ => ⟨S2x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Peers.lean ====
/-
  The eight devices and the seven slots of the exchange.

  Every device sends its partial sums to each of the other seven. The copy number `j` (of seven) goes to the device
  `j + 1` places ahead around the mesh, and lands in that device's slot number `j`. Here: who the peers are, the memrefs
  and semaphores of slot `j`, and that the seven slots cut the landing buffer into disjoint parts that cover it.
-/
module

public import proofs.«01_k».proof.Proof.Gen.KernelIdeal
public import Idealize.ShloMosaic.Lib.Ring
public import Idealize.ShloMosaic.Lib.Writes

@[expose] public section

noncomputable section

namespace Cert.Proof

open Cert.KernelIdeal Cert.KernelIdeal.Gen

open Idealize.ShloMosaic
open Idealize.ShloMosaic.TcCoe

/-! ## Peers -/

/-- The device that copy `j` of device `c` goes to. -/
def nxt (j : Fin 7) (c : Dev nD) : Dev nD := ⟨(c.val + (j.val + 1)) % 8, Nat.mod_lt _ (by decide)⟩
/-- The slot number whose peer relation undoes that of slot `j`. -/
def rev (j : Fin 7) : Fin 7 := ⟨6 - j.val, by omega⟩
/-- The device whose copy `j` lands on device `c`. -/
def prv (j : Fin 7) (c : Dev nD) : Dev nD := nxt (rev j) c

theorem rev_rev (j : Fin 7) : rev (rev j) = j := by revert j; decide
theorem prv_nxt (j : Fin 7) (c : Dev nD) : prv j (nxt j c) = c := by revert j c; decide
theorem nxt_prv (j : Fin 7) (c : Dev nD) : nxt j (prv j c) = c := by revert j c; decide
theorem nxt_rev_nxt (j : Fin 7) (c : Dev nD) : nxt (rev j) (nxt j c) = c := prv_nxt j c
theorem nxt_nxt_rev (j : Fin 7) (c : Dev nD) : nxt j (nxt (rev j) c) = c := nxt_prv j c

/-- Going `j + 1` places ahead is a permutation of the devices. -/
def around (j : Fin 7) : Dev nD ≃ Dev nD := ⟨nxt j, prv j, prv_nxt j, nxt_prv j⟩

/-- Counting the slots from the other end. -/
def revEquiv : Fin 7 ≃ Fin 7 := ⟨rev, rev, rev_rev, rev_rev⟩

/-! ## Memrefs and semaphores -/

/-- The accumulator, 2 by 2048. -/
abbrev accM : Memref sig .tc .vmem S2x2048 .f32 := Memref.whole cc0_scratch0
/-- The landing buffer, seven slots of 2 by 2048. -/
abbrev commM : Memref sig .tc .vmem S7x2x2048 .f32 := Memref.whole cc0_scratch1

theorem inb_slot : ∀ (j : Fin 7) (a : Fin S7x2x2048.rank), (![j.val, 0, 0] : Fin 3 → ℕ) a + S1x2x2048.size a ≤ S7x2x2048.size a := by
  decide

/-- The rectangle of slot `j`. -/
abbrev slotR (j : Fin 7) : Rect S7x2x2048 := Rect.unit (s := S7x2x2048) ![j.val, 0, 0] S1x2x2048.size (inb_slot j)

/-- Slot `j` of the landing buffer, as the copies address it. -/
def slotM (j : Fin 7) : Memref sig .tc .vmem S2x2048 .f32 :=
  (commM.slice (slotR j) (fun _ => rfl)).squeeze S2x2048 squeezes_S1x2x2048_S2x2048

/-- The semaphores counting what left through copy `j`, -/
def sendS (j : Fin 7) : DmaSem sig := ⟨9 + j.val, by have := j.isLt; show 9 + j.val < 23; omega⟩
/-- and what arrived in slot `j`. -/
def recvS (j : Fin 7) : DmaSem sig := ⟨16 + j.val, by have := j.isLt; show 16 + j.val < 23; omega⟩
/-- The barrier semaphore. -/
abbrev barS : Sem sig := (SemArray.scalar (sig.barrier 0 rfl) : Sems sig S_).sem

theorem sendS_inj : Function.Injective sendS := fun a b h => by
  have := congrArg Fin.val h
  simp only [sendS] at this
  exact Fin.ext (by omega)
theorem recvS_inj : Function.Injective recvS := fun a b h => by
  have := congrArg Fin.val h
  simp only [recvS] at this
  exact Fin.ext (by omega)

/-! ## The slots cut the landing buffer -/

theorem slot_set (j : Fin 7) : (slotM j).view.set = (slotR j).set := by
  show ((commM.view.slice (slotR j)).reshape S2x2048 squeezes_S1x2x2048_S2x2048.numel_eq).set = _
  rw [View.set_reshape, View.set_slice]
  show (slotR j).set.map (View.whole cc0_scratch1).emb = _
  exact Finset.map_refl

theorem slot_disjoint (j j' : Fin 7) (h : j ≠ j') : Disjoint (slotR j).set (slotR j').set :=
  Ring.lead_disjoint (s := S7x2x2048) (NB := 7) (0 : Fin 3) 1 (fun j => ![j.val, 0, 0]) S1x2x2048.size inb_slot
    (by decide) (by decide) j j' h

theorem slot_cover : Finset.univ.biUnion (fun j : Fin 7 => (slotR j).set) = Finset.univ :=
  Ring.lead_cover (s := S7x2x2048) (NB := 7) (0 : Fin 3) 1 (fun j => ![j.val, 0, 0]) S1x2x2048.size inb_slot
    (by decide) (by decide) (by decide) (by decide) (by decide)

/-! ## Reading back what landed -/

variable {F : FTy → Type}

/-- What a load of slot `j` reads when the slot holds `g`: `g` under a leading axis of length one. -/
def lifted (g : S2x2048.Idx → Elt F .f32) : S1x2x2048.Idx → Elt F .f32 :=
  fun y => g ((Shape.reshapeEquiv squeezes_S1x2x2048_S2x2048.numel_eq).symm y)

theorem slot_read (j : Fin 7) (f : commM.view.ty.Contents (Elt F)) (g : S2x2048.Idx → Elt F .f32) :
    (commM.access (slotR j)).read (Elt F) ((slotM j).view.write (Elt F) f g Finset.univ) = lifted g := by
  show (commM.view.slice (slotR j)).read (Elt F)
    (((commM.view.slice (slotR j)).reshape S2x2048 squeezes_S1x2x2048_S2x2048.numel_eq).write (Elt F) f g Finset.univ) = _
  rw [View.write_reshape_univ]
  funext y
  exact View.read_write_of_mem _ _ (Finset.mem_univ y)

end Cert.Proof

end
-- ==== Proof.Contents.lean ====
/-
  What the buffers hold, over any float values: the accumulator after each grid point, and the result.

  At a grid point the kernel folds two blocks of 512 rows into the accumulator. After the fourth point the accumulator
  holds the device's own partial sums; the result is those plus the seven that landed, in slot order.
-/
module

public import proofs.«01_k».proof.Proof.Gen.KernelIdeal.Frame
public import proofs.«01_k».proof.Proof.Gen.KernelIdeal.Skeleton
public import proofs.«01_k».proof.Proof.Peers

@[expose] public section

noncomputable section

namespace Cert.Proof

open Cert.KernelIdeal Cert.KernelIdeal.Gen

open Idealize.ShloMosaic
open Idealize.ShloMosaic.TcCoe

variable {F : FTy → Type} [FloatOps F]

/-- One grid point's change of the accumulator `a`: the blocks `x`, `dy` first, then the blocks `xb`, `dyb`. -/
def accStep (a : Vec F S2x2048 .f32) (x dy xb dyb : Vec F S512x2048 .bf16) : Vec F S2x2048 .f32 :=
  k0_pay1 (k0_pay11 (k0_pay10 a (k0_pay8 x dy) (k0_pay9 dy)) xb dyb)

/-- The result from the device's own sums and the seven contributions. -/
def combine (a : Vec F S2x2048 .f32) (s : Fin 7 → Vec F S1x2x2048 .f32) : Vec F S2x2048 .f32 :=
  k0_pay5 (k0_pay4 (k0_pay3 (k0_pay2 a (s 0)) (s 1) (s 2) (s 3)) (s 4) (s 5)) (s 6)

variable (m : (ℓ : Loc nD τ sig) → Buf (Elt F) ℓ)

/-- Device `c`'s accumulator before grid point `n` (after the reset, for the first). -/
def accAt (c : Dev nD) : ℕ → Vec F S2x2048 .f32
  | 0 => k0_pay6
  | n + 1 => if h : n < cfg0.N then
      accStep (accAt c n) (iblk m c 0 ⟨n, h⟩) (iblk m c 1 ⟨n, h⟩) (iblk m c 2 ⟨n, h⟩) (iblk m c 3 ⟨n, h⟩)
    else accAt c n

theorem accAt_succ (c : Dev nD) (t : Fin cfg0.N) :
    accAt m c (t.val + 1) = accStep (accAt m c t.val) (iblk m c 0 t) (iblk m c 1 t) (iblk m c 2 t) (iblk m c 3 t) := by
  rw [accAt, dif_pos t.isLt]

/-- Device `c`'s own partial sums. -/
def accFin (c : Dev nD) : Vec F S2x2048 .f32 := accAt m c 4

/-- The result on device `c`. -/
def outAt (c : Dev nD) : Vec F S2x2048 .f32 := combine (accFin m c) fun j => lifted (accFin m (prv j c))

end Cert.Proof

end
-- ==== Proof.Protocol.lean ====
/-
  The exchange as rounds of duties.

  Each device has a barrier cell with seven duties, one from every other device, and per slot a send cell and a receive
  cell with one duty each. Signalling a peer's barrier cell hands that peer one slot of the own landing buffer. A copy into
  the slot pays the receiver's duty with the slot at what landed, and the sender's with the share of the accumulator it read.
-/
module

public import proofs.«01_k».proof.Proof.Contents
public import Idealize.ShloMosaic.Lib.Rounds
public import Idealize.ShloMosaic.Lib.ShareLeaves
public import Idealize.ShloMosaic.Lib.Pipeline.Regions
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own resources: cells with duties numbered by slot. -/
abbrev UB : Type := URounds (GSem nD τ sig) (Fin 7)
/-- The pipeline's resources beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- What a semaphore counts. -/
inductive Part where
  | bar
  | send (j : Fin 7)
  | recv (j : Fin 7)
  | other

def part : SemLoc sig → Part
  | .reg _ => .bar
  | .dma s => if h : 16 ≤ s.val then .recv ⟨s.val - 16, by have h1 : s.val < 23 := s.isLt; omega⟩
      else if h' : 9 ≤ s.val then .send ⟨s.val - 9, by omega⟩ else .other

theorem part_bar : part (.reg barS) = .bar := rfl
theorem part_send (j : Fin 7) : part (.dma (sendS j)) = .send j := by
  have hj := j.isLt
  dsimp only [part]
  rw [dif_neg (by show ¬ 16 ≤ 9 + j.val; omega), dif_pos (by show 9 ≤ 9 + j.val; omega)]
  exact congrArg _ (Fin.ext (by show 9 + j.val - 9 = j.val; omega))
theorem part_recv (j : Fin 7) : part (.dma (recvS j)) = .recv j := by
  dsimp only [part]
  rw [dif_pos (by show 16 ≤ 16 + j.val; omega)]
  exact congrArg _ (Fin.ext (by show 16 + j.val - 16 = j.val; omega))

/-- What one copy credits. -/
abbrev N : ℕ := accM.view.dmaCredit
theorem N_pos : 0 < N := View.dmaCredit_pos _ (by decide)

/-! ## What the duties hand over -/

variable (m : (ℓ : Loc nD τ sig) → Buf (Elt F) ℓ)

/-- Slot `j` of device `c`'s landing buffer, at `f`. -/
abbrev slotPts (c : Dev nD) (j : Fin 7) (f : Buf (Elt F) ((slotM j).view.loc (c : Thread nD τ))) : sProp 𝕄 :=
  (slotM j).view.loc (c : Thread nD τ) ↦[(slotM j).view.set]{fullShare} f

/-- The share of the accumulator that copy `j` reads. -/
def lentShare (j : Fin 7) : PosShare TreeShare := ShareLeaves.leaf 3 fullShare ⟨j.val, by omega⟩

/-- The accumulator at its final contents, at a share. -/
abbrev accPts (c : Dev nD) (q : PosShare TreeShare) : sProp 𝕄 :=
  accM.view.loc (c : Thread nD τ) ↦[accM.view.set]{q} (accFin m c)

/-- Duty `i` of device `c`'s barrier cell: slot `i` of the landing buffer of the device `c` sends copy `i` to. -/
def barPay (c : Dev nD) (i : Fin 7) : sProp 𝕄 :=
  iprop((∃ f, slotPts (nxt i c) i f) ∗ reached ER (recvCell (nxt i c) i) 0)
/-- The duty of device `c`'s receive cell `j`: the slot, holding the sender's sums. -/
def recvPay (c : Dev nD) (j : Fin 7) : sProp 𝕄 :=
  iprop(∃ fd, slotPts c j ((slotM j).view.write (Elt F) fd (accFin m (prv j c)) Finset.univ))
/-- The duty of device `c`'s send cell `j`: the share of the accumulator back. -/
def sendPay (c : Dev nD) (j : Fin 7) : sProp 𝕄 := accPts m c (lentShare j)

/-- One round on every cell of the exchange. -/
def xRd : Rounds.Schedule (GSem nD τ sig) (Fin 7) 𝕄 where
  duties g r := if r = 0 ∧ g.1.2 = .tc then
      (match part g.2 with | .bar => Finset.univ | .send _ => {0} | .recv _ => {0} | .other => ∅) else ∅
  unitless _ := False
  amount g _ _ := match part g.2 with | .bar => 1 | _ => N
  payload g _ d := match part g.2 with
    | .bar => barPay g.1.1 d
    | .send j => sendPay m g.1.1 j
    | .recv j => recvPay m g.1.1 j
    | .other => iprop(emp)
  amount_pos g _ _ _ := by
    cases part g.2
    · exact Nat.one_pos
    all_goals exact N_pos

instance xRd_payload_storable (g : GSem nD τ sig) (r : ℕ) (d : Fin 7) :
    BI.Storable (upEmb : UEmb _ 𝕄) ((xRd (F := F) m).payload g r d) := by
  show BI.Storable upEmb (match part g.2 with
    | .bar => barPay g.1.1 d | .send j => sendPay m g.1.1 j | .recv j => recvPay m g.1.1 j | .other => iprop(emp))
  unfold barPay recvPay sendPay
  cases part g.2 <;> infer_instance

section Sched

variable (c : Dev nD) (j d : Fin 7)

theorem duties_bar : (xRd (F := F) m).duties (barCell c) 0 = Finset.univ := by
  dsimp only [xRd]; rw [if_pos ⟨rfl, rfl⟩, part_bar]
theorem duties_send : (xRd (F := F) m).duties (sendCell c j) 0 = {0} := by
  dsimp only [xRd]; rw [if_pos ⟨rfl, rfl⟩, part_send]
theorem duties_recv : (xRd (F := F) m).duties (recvCell c j) 0 = {0} := by
  dsimp only [xRd]; rw [if_pos ⟨rfl, rfl⟩, part_recv]
theorem duties_later (g : GSem nD τ sig) : ∀ r, 1 ≤ r → (xRd (F := F) m).duties g r = ∅ :=
  fun r hr => by dsimp only [xRd]; rw [if_neg (fun h => by omega)]

theorem amount_bar : (xRd (F := F) m).amount (barCell c) 0 d = 1 := by dsimp only [xRd]; rw [part_bar]
theorem amount_send : (xRd (F := F) m).amount (sendCell c j) 0 d = N := by dsimp only [xRd]; rw [part_send]
theorem amount_recv : (xRd (F := F) m).amount (recvCell c j) 0 d = N := by dsimp only [xRd]; rw [part_recv]

theorem expect_bar : (xRd (F := F) m).expect (barCell c) 0 = 7 := by
  unfold Schedule.expect Schedule.amountOf
  rw [duties_bar, Finset.sum_congr rfl fun d _ => amount_bar m c d]
  simp
theorem expect_send : (xRd (F := F) m).expect (sendCell c j) 0 = N := by
  unfold Schedule.expect Schedule.amountOf; rw [duties_send, Finset.sum_singleton, amount_send]
theorem expect_recv : (xRd (F := F) m).expect (recvCell c j) 0 = N := by
  unfold Schedule.expect Schedule.amountOf; rw [duties_recv, Finset.sum_singleton, amount_recv]

theorem payload_bar : (xRd (F := F) m).payload (barCell c) 0 d = barPay c d := by dsimp only [xRd]; rw [part_bar]
theorem payload_send : (xRd (F := F) m).payload (sendCell c j) 0 d = sendPay m c j := by dsimp only [xRd]; rw [part_send]
theorem payload_recv : (xRd (F := F) m).payload (recvCell c j) 0 d = recvPay m c j := by dsimp only [xRd]; rw [part_recv]

theorem rest_bar : bigSep ((xRd (F := F) m).duties (barCell c) 0 \ ∅) (fun u => (xRd (F := F) m).payload (barCell c) 0 u)
    = bigSep Finset.univ fun i => barPay c i := by
  rw [Finset.sdiff_empty, duties_bar]; exact bigSep_congr fun d _ => payload_bar m c d
theorem rest_send : bigSep ((xRd (F := F) m).duties (sendCell c j) 0 \ ∅) (fun u => (xRd (F := F) m).payload (sendCell c j) 0 u)
    = sendPay m c j := by
  rw [Finset.sdiff_empty, duties_send, bigSep_singleton, payload_send]
theorem rest_recv : bigSep ((xRd (F := F) m).duties (recvCell c j) 0 \ ∅) (fun u => (xRd (F := F) m).payload (recvCell c j) 0 u)
    = recvPay m c j := by
  rw [Finset.sdiff_empty, duties_recv, bigSep_singleton, payload_recv]

end Sched

/-- A cell whose one round is over gives its counter back at zero. -/
theorem close (κ : ℕ) (g : GSem nD τ sig) :
    iprop(cellInv ER (xRd m) κ g ∗ atPos ER g (0 + 1) ∅ 0) ⊢ (|={Set.univ}=> semVal g 0 : sProp 𝕄) :=
  Rounds.cell_close ER (xRd m) (Set.mem_univ κ) id (duties_later m g)

/-! ## What a device owes -/

/-- From slot `n` on: the credit of the copies device `c` still has to send. -/
def recvDue (c : Dev nD) (n : ℕ) : CellTallies nD τ sig Unit :=
  ∑ i ∈ Finset.univ.filter (fun i : Fin 7 => n ≤ i.val), tallyAt (recvCell (nxt i c) i) () N
/-- From peer `n` on: the barrier units device `c` still has to signal. -/
def barDue (c : Dev nD) (n : ℕ) : CellTallies nD τ sig Unit :=
  ∑ i ∈ Finset.univ.filter (fun i : Fin 7 => n ≤ i.val), tallyAt (barCell (nxt i c)) () 1

theorem due_step {A : Type} [AddCommMonoid A] (f : Fin 7 → A) (j : Fin 7) :
    (∑ i ∈ Finset.univ.filter (fun i : Fin 7 => j.val ≤ i.val), f i)
      = (∑ i ∈ Finset.univ.filter (fun i : Fin 7 => j.val + 1 ≤ i.val), f i) + f j := by
  rw [show Finset.univ.filter (fun i : Fin 7 => j.val ≤ i.val) = insert j (Finset.univ.filter (fun i : Fin 7 => j.val + 1 ≤ i.val)) from by
    revert j; decide, Finset.sum_insert (by simp), add_comm]

theorem recvDue_step (c : Dev nD) (j : Fin 7) :
    recvDue c j.val = recvDue c (j.val + 1) + tallyAt (recvCell (nxt j c) j) () N := due_step _ j
theorem barDue_step (c : Dev nD) (j : Fin 7) :
    barDue c j.val = barDue c (j.val + 1) + tallyAt (barCell (nxt j c)) () 1 := due_step _ j
theorem recvDue_end (c : Dev nD) : recvDue c 7 = 0 := by
  unfold recvDue; rw [show Finset.univ.filter (fun i : Fin 7 => 7 ≤ i.val) = ∅ from by decide, Finset.sum_empty]
theorem barDue_end (c : Dev nD) : barDue c 7 = 0 := by
  unfold barDue; rw [show Finset.univ.filter (fun i : Fin 7 => 7 ≤ i.val) = ∅ from by decide, Finset.sum_empty]

/-- Everything device `c` owes at launch. -/
def O₀ (c : Dev nD) : CellTallies nD τ sig Unit := recvDue c 0 + barDue c 0

theorem sum_tally_apply (s : Finset (Fin 7)) (f : Fin 7 → GSem nD τ sig) (k : ℕ) (g : GSem nD τ sig) (u : Unit) :
    (∑ i ∈ s, (tallyAt (f i) () k : CellTallies nD τ sig Unit)) g u = ∑ i ∈ s, if g = f i then k else 0 := by
  rw [Finset.sum_apply, Finsupp.finset_sum_apply]
  refine Finset.sum_congr rfl fun i _ => ?_
  rw [tallyAt_apply]
  by_cases h : g = f i
  · rw [if_pos ⟨h, rfl⟩, if_pos h]
  · rw [if_neg (fun h' => h h'.1), if_neg h]

theorem sum_tally_pos {s : Finset (Fin 7)} {f : Fin 7 → GSem nD τ sig} {k : ℕ} {g : GSem nD τ sig} {u : Unit}
    (h : 0 < (∑ i ∈ s, (tallyAt (f i) () k : CellTallies nD τ sig Unit)) g u) : ∃ i, g = f i := by
  rw [sum_tally_apply] at h
  by_contra hn
  push Not at hn
  rw [Finset.sum_eq_zero fun i _ => if_neg (hn i)] at h
  exact absurd h (Nat.lt_irrefl 0)

theorem recvDue_pos {c : Dev nD} {n : ℕ} {g : GSem nD τ sig} {u : Unit} (h : 0 < recvDue c n g u) : ∃ i, g = recvCell (nxt i c) i :=
  sum_tally_pos h
theorem barDue_pos {c : Dev nD} {n : ℕ} {g : GSem nD τ sig} {u : Unit} (h : 0 < barDue c n g u) : ∃ i, g = barCell (nxt i c) :=
  sum_tally_pos h

/-! ## Levels -/

def L (g : GSem nD τ sig) : Finset Unit := if g.1.2 = .tc then {()} else ∅
/-- Receive cells above barrier cells above everything else. -/
def lv (g : GSem nD τ sig) (_ : Unit) : ℕ := match part g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Owing only copies, a device may wait at its barrier. -/
theorem mayWait_bar (c : Dev nD) (n : ℕ) :
    (levAts L lv : sProp 𝕄) ⊢ MayWait (c : Thread nD τ) (.reg barS) () (recvDue c n) :=
  MayOwe.of_cut (L := L) (lev := lv) 1 (fun p hp => by rw [Finset.mem_singleton.mp hp, L_tc]; exact Finset.mem_singleton_self _)
    (fun g u hg => by obtain ⟨i, rfl⟩ := recvDue_pos hg; rw [L_tc]; exact Finset.mem_singleton_self _)
    (fun p hp => by rw [Finset.mem_singleton.mp hp]; exact le_refl 1)
    (fun g u hg => by
      obtain ⟨i, rfl⟩ := recvDue_pos hg
      dsimp only [lv]; rw [part_recv]; exact Nat.lt_succ_self 1)

/-! ## Names of all cells -/

/-- The fourteen semaphores of the kernel's own: seven for sending, then seven for receiving. -/
def osem (k : Fin 14) : SemLoc sig := .dma ⟨9 + k.val, by have := k.isLt; show 9 + k.val < 23; omega⟩

theorem osem_inj : Function.Injective osem := fun a b h => by
  have h1 := congrArg Fin.val (SemLoc.dma.inj h)
  exact Fin.ext (Nat.add_left_cancel h1)
theorem osem_ne_bar (k : Fin 14) : osem k ≠ .reg barS := fun h => by cases h

def barEmb : Dev nD ↪ GSem nD τ sig := ⟨fun c => barCell c, fun _ _ h => congrArg (fun g : GSem nD τ sig => g.1.1) h⟩
def ownEmb : Dev nD × Fin 14 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem bar_mem (c : Dev nD) : barCell c ∈ (barCells ∪ ownCells : Finset (GSem nD τ sig)) :=
  Finset.mem_union_left _ (Finset.mem_map_of_mem barEmb (Finset.mem_univ c))
theorem send_mem (c : Dev nD) (j : Fin 7) : sendCell c j ∈ (barCells ∪ ownCells : Finset (GSem nD τ sig)) :=
  Finset.mem_union_right _ (Finset.mem_map_of_mem ownEmb (Finset.mem_univ (c, (⟨j.val, by omega⟩ : Fin 14))))
theorem recv_mem (c : Dev nD) (j : Fin 7) : recvCell c j ∈ (barCells ∪ ownCells : Finset (GSem nD τ sig)) := by
  have e : recvCell c j = ownEmb (c, (⟨7 + j.val, by omega⟩ : Fin 14)) :=
    congrArg (fun s : DmaSem sig => (((c : Thread nD τ), SemLoc.dma s) : GSem nD τ sig))
      (Fin.ext (by show 16 + j.val = 9 + (7 + j.val); omega))
  rw [e]
  exact Finset.mem_union_right _ (Finset.mem_map_of_mem ownEmb (Finset.mem_univ _))

/-- What every device may consult: the invariant of every cell, and that round 0 of every barrier cell is reached. -/
def records (K : GSem nD τ sig → ℕ) : sProp 𝕄 :=
  iprop((bigSep (barCells ∪ ownCells) fun g => cellInv ER (xRd m) (K g) g) ∗ bigSep barCells fun g => reached ER g 0)

instance records_persistent (K : GSem nD τ sig → ℕ) : BI.Persistent (records m K) := by unfold records; infer_instance

theorem inv_at (K : GSem nD τ sig → ℕ) {g : GSem nD τ sig} (hg : g ∈ (barCells ∪ ownCells : Finset (GSem nD τ sig))) :
    (records m K : sProp 𝕄) ⊢ cellInv ER (xRd m) (K g) g := by
  have h : (bigSep (barCells ∪ ownCells) fun g => (cellInv ER (xRd m) (K g) g : sProp 𝕄)) ⊢ cellInv ER (xRd m) (K g) g := bigSep_elim hg
  unfold records
  iintro ⟨H, -⟩
  iapply h $$ H

theorem reached_at (K : GSem nD τ sig → ℕ) (c : Dev nD) : (records m K : sProp 𝕄) ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h $$ H

end Cert.Proof

end
-- ==== Proof.Access.lean ====
/-
  Loads and stores of a whole memref, held at known contents.
-/
module

public import Idealize.ShloMosaic.Lib.Memref
public import Idealize.ShloMosaic.Rules.Step

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

section Views
variable {κ : Kind} {sp : Space} {s : Shape} {e : EltTy}

/-- A load of everything, from offset zero, reads what the view reads. -/
theorem readAt_all (v : View sig κ sp s e) {off : Fin s.rank → ℕ} (h0 : off = fun _ => 0)
    (h : ∀ a, off a + s.size a ≤ s.size a) (f : v.ty.Contents Val) :
    v.readAt Val (Rect.unit (s := s) off s.size h).toLoadRect f = v.read Val f := by
  subst h0
  funext y
  show v.read Val f _ = v.read Val f y
  congr 1
  funext a
  refine Fin.ext ?_
  show 0 + 1 * (y a).val = (y a).val
  omega

/-- A store of everything, at offset zero, leaves what was stored. -/
theorem read_write_all (v : View sig κ sp s e) {off : Fin s.rank → ℕ} (h0 : off = fun _ => 0)
    (h : ∀ a, off a + s.size a ≤ s.size a) (f : v.ty.Contents Val) (w : s.Idx → Val e) :
    v.read Val ((v.slice (Rect.unit (s := s) off s.size h)).write Val f w Finset.univ) = w := by
  rw [← readAt_all v h0 h]
  funext y
  exact View.read_write_of_mem (v := v.slice (Rect.unit (s := s) off s.size h)) _ _ (Finset.mem_univ y)

end Views

variable {defs : Defs nD τ sig Val Λ} (𝒱 : Variants) (c : Thread nD τ) (bd : Option 𝒱.V) {Γ : PendingWaitsCtx sig Ix}
variable (E : Set Name) {α : Type} {Q : α → sProp (MT nD τ sig Ix Val Name U Lvl)}

/-- Loading a memref whole, at any share of it, continues at its contents. -/
theorem wp_load_all {cs : CoreSpace} {s : Shape} {e : EltTy} {M : Memref sig c.2.kind cs s e} {off : Fin s.rank → ℕ}
    {h : ∀ a, off a + s.size a ≤ s.size a} {hl : M.view.LoadsAt (Rect.unit (s := s) off s.size h).toLoadRect}
    {k : (s.Idx → Val e) → Prog (TpuEff nD τ sig Val Λ c.2) α}
    {q : PosShare TreeShare} (X : s.Idx → Val e) (h0 : off = fun _ => 0) :
    (owns c M q X : sProp 𝕄)
      ⊢ iprop((owns c M q X -∗ wp frame (wpE' defs 𝒱 c bd Γ) E (k X) Q)
        -∗ wp frame (wpE' defs 𝒱 c bd Γ) E (.op (.load M (Rect.unit (s := s) off s.size h).toLoadRect hl) k) Q) := by
  unfold owns
  iintro ⟨%f, %hf, Hp⟩ Hk
  iapply (wp_load 𝒱 c bd E (m := M) (S := M.view.set) (View.setOn_subset_set _ _)) $$ Hp
  iintro Hp
  rw [readAt_all M.view h0 h f, hf]
  iapply Hk
  iexists f
  isplitr; · ipureintro; exact hf
  iexact Hp

/-- Storing a memref whole leaves it at the stored contents. -/
theorem wp_store_all {cs : CoreSpace} {s : Shape} {e : EltTy} {M : Memref sig c.2.kind cs s e} {off : Fin s.rank → ℕ}
    {h : ∀ a, off a + s.size a ≤ s.size a} {w : s.Idx → Val e}
    {hx : (M.access (Rect.unit (s := s) off s.size h)).Stores Finset.univ}
    {hm : (Finset.univ : Finset (Rect.unit (s := s) off s.size h).shape.Idx) = Finset.univ ∨ ∀ a, (Rect.unit (s := s) off s.size h).stride a = 1}
    {k : PUnit → Prog (TpuEff nD τ sig Val Λ c.2) α} {X : s.Idx → Val e} (h0 : off = fun _ => 0) :
    (owns c M fullShare X : sProp 𝕄)
      ⊢ iprop((owns c M fullShare w -∗ wp frame (wpE' defs 𝒱 c bd Γ) E (k ⟨⟩) Q)
        -∗ wp frame (wpE' defs 𝒱 c bd Γ) E (.op (.store M (Rect.unit (s := s) off s.size h) w Finset.univ hx hm) k) Q) := by
  unfold owns
  iintro ⟨%f, %hf, Hp⟩ Hk
  iapply (wp_store 𝒱 c bd E (m := M) (r := Rect.unit (s := s) off s.size h) (Mk := Finset.univ) (S := M.view.set)
    (by rw [View.setOn_univ]; exact View.set_slice_subset _ _)) $$ Hp
  iintro Hp
  iapply Hk
  iexists _
  isplitr; · ipureintro; exact read_write_all M.view h0 h f w
  iexact Hp

end Cert.Proof

end
-- ==== Proof.Steps.lean ====
/-
  One lemma per kind of operation of the exchange, for any slot `j`: signal a peer, wait at the barrier, send a copy, wait
  for what arrives, wait for what left, load what landed.
-/
module

public import proofs.«01_k».proof.Proof.Protocol
public import proofs.«01_k».proof.Proof.Access

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem slot_credit (j : Fin 7) : (slotM j).view.dmaCredit = N := rfl

/-! ## The accumulator's shares -/

/-- The share of the accumulator the device keeps while the copies read it. -/
def keptShare : PosShare TreeShare := ShareLeaves.leaf 3 fullShare ⟨7, by decide⟩

/-- The accumulator whole is the seven lent shares and the kept one. -/
theorem acc_shares (c : Dev nD) :
    (accPts m c fullShare : sProp 𝕄) = iprop((bigSep Finset.univ fun j : Fin 7 => accPts m c (lentShare j)) ∗ accPts m c keptShare) := by
  unfold accPts
  rw [ShareLeaves.pointsTo_leaves _ _ 3 fullShare]
  show (bigSep (Finset.univ : Finset (Fin (7 + 1))) fun i => accPts m c (ShareLeaves.leaf 3 fullShare i) : sProp 𝕄) = _
  rw [show (Finset.univ : Finset (Fin (7 + 1))) = insert (Fin.last 7) (Finset.univ.map Fin.castSuccEmb) from by decide,
    bigSep_insert (by decide), bigSep_map]
  have e (A B : sProp 𝕄) : iprop(A ∗ B) = iprop(B ∗ A) := BI.Entails.antisymm BI.sep_comm BI.sep_comm
  exact e _ _

/-- Holding the accumulator's points-to is owning it at those contents. -/
theorem owns_acc (c : Dev nD) (q : PosShare TreeShare) : (accPts m c q : sProp 𝕄) = owns (c : Thread nD τ) accM q (accFin m c) := by
  rw [owns_whole]
  unfold accPts
  rw [View.set_whole]

variable {Λ : Labels} {defs : Defs nD τ sig (Elt F) Λ} (𝒱 : Variants)
variable {α : Type} {Q : α → sProp (MT nD τ sig Unit (Elt F) ℕ UU ℕ)}
variable {k : PUnit → Prog (TpuEff nD τ sig (Elt F) Λ .tc) α}
variable (K : GSem nD τ sig → ℕ) (c : Dev nD)

/-- What signalling peer `j` takes: its duty's token, the own slot to be lent, and that the slot's receive cell is open. -/
def signalKit (c : Dev nD) (j : Fin 7) : sProp 𝕄 :=
  iprop(dutyTok ER (barCell (nxt j c)) 0 (rev j) ∗ (∃ f, slotPts c (rev j) f) ∗ reached ER (recvCell c (rev j)) 0)

/-- Signalling peer `j` spends that and lowers what is owed. -/
theorem step_signal (j : Fin 7) {n : Dev nD} (hn : n = nxt j c) {w : ℤ} (hw : w = ((1 : ℕ) : ℤ)) {W : Waits sig Unit} :
    iprop(records m K ∗ signalKit c j ∗ owes (c : Thread nD τ) (recvDue c 0 + barDue c j.val) W)
      ⊢ iprop((owes (c : Thread nD τ) (recvDue c 0 + barDue c (j.val + 1)) W -∗ wp frame (wpE defs 𝒱 (c : Thread nD τ) none) Set.univ (k ⟨⟩) Q)
        -∗ wp frame (wpE defs 𝒱 (c : Thread nD τ) none) Set.univ (.op (.semSignal (n, .tc) barS w) k) Q) := by
  subst hn; subst hw
  unfold signalKit
  iintro ⟨#HR, ⟨Ht, Hs, #Hr⟩, HO⟩ Hk
  iapply (Rounds.wp_signal 𝒱 ER (xRd m) (c : Thread nD τ) none (dst := (nxt j c : Thread nD τ)) (sem := barS) (r := 0) (d := rev j)
      (κ := K (barCell (nxt j c)))
      (by rw [duties_bar]; exact Finset.mem_univ _) (amount_bar m (nxt j c) (rev j)) () (O₀ := recvDue c 0 + barDue c j.val) (recvDue c 0 + barDue c (j.val + 1))
      (by rw [barDue_step, add_assoc])) $$ [HO Ht Hs]
  · isplitr; · iapply (inv_at m K (bar_mem (nxt j c))); iexact HR
    isplitl [HO]; · iexact HO
    isplitl [Ht]; · iexact Ht
    isplitl [Hs]
    · rw [payload_bar]; unfold barPay; rw [nxt_rev_nxt]
      isplitl [Hs]; · iexact Hs
      iexact Hr
    · iapply (reached_at m K (nxt j c)); iexact HR
  iexact Hk

/-- Waiting for seven at the barrier brings the seven slots lent by the peers; the cell closes. -/
theorem step_barrier {w : ℤ} (hw : w = ((7 : ℕ) : ℤ)) {W : Waits sig Unit} :
    iprop(records m K ∗ levAts L lv ∗ cred (tallyAt (barCell c) () 7) ∗ atPos ER (barCell c) 0 ∅ 0 ∗ owes (c : Thread nD τ) (recvDue c 0) W)
      ⊢ iprop((((∃ W, owes (c : Thread nD τ) (recvDue c 0) W) ∗ semVal (barCell c) 0 ∗ bigSep Finset.univ fun i => barPay c i)
          -∗ wp frame (wpE defs 𝒱 (c : Thread nD τ) none) Set.univ (k ⟨⟩) Q)
        -∗ wp frame (wpE defs 𝒱 (c : Thread nD τ) none) Set.univ (.op (.semWait barS w) k) Q) := by
  subst hw
  iintro ⟨#HR, #Hlev, Hc, Hat, HO⟩ Hk
  iapply (Rounds.wp_wait_rest_token 𝒱 ER (xRd m) (c : Thread nD τ) none (κ := K (barCell c))
      (wpE_semWait_eq 𝒱 (c : Thread nD τ) none Set.univ) (Set.mem_univ _) () (O := recvDue c 0) (W := W) (R := 0) (m := 0) (T := ∅)
      ((Nat.zero_add 7).trans (expect_bar m c).symm)) $$ [Hc HO Hat]
  · isplitr; · iapply (inv_at m K (bar_mem c)); iexact HR
    isplitl [Hc]; · iexact Hc
    isplitl [HO]; · iexact HO
    isplitr; · iapply (mayWait_bar c 0); iexact Hlev
    iexact Hat
  iintro ⟨HO, Hat, -, Hpay⟩
  ihave Hp := (Entails.of_eq (rest_bar m c)) $$ Hpay
  imod (close m (K (barCell c)) (barCell c)) $$ [Hat] with Hv
  · isplitr; · iapply (inv_at m K (bar_mem c)); iexact HR
    iexact Hat
  iapply Hk
  isplitl [HO]; · iexists _; iexact HO
  isplitl [Hv]; · iexact Hv
  iexact Hp

/-- What sending copy `j` takes: both duties' tokens, that both cells are open, the peer's slot, and a share of the accumulator. -/
def sendKit (c : Dev nD) (j : Fin 7) : sProp 𝕄 :=
  iprop(dutyTok ER (sendCell c j) 0 0 ∗ reached ER (sendCell c j) 0 ∗ dutyTok ER (recvCell (nxt j c) j) 0 0 ∗ barPay c j)

/-- Sending copy `j` spends that and a share of the accumulator, and leaves the credit to wait for it with. -/
theorem step_send (j : Fin 7) {n : Dev nD} (hn : n = nxt j c) {dst : Memref sig .tc .vmem S2x2048 .f32} (hd : dst = slotM j)
    {s r : DmaSem sig} (hs : s = sendS j) (hr : r = recvS j) {hsc : dst.view.ref.isScScratch = false}
    {h1 : accM.view.WordExact} {h2 : dst.view.WordExact} {h3 : DmaTarget.Typed .vmem (.dma r) (.remote (Dev.tc n) dst (.dma s) hsc)}
    {W : Waits sig Unit} :
    iprop(records m K ∗ sendKit c j ∗ accPts m c (lentShare j) ∗ owes (c : Thread nD τ) (recvDue c j.val) W)
      ⊢ iprop(((cred (tallyAt (sendCell c j) () N) ∗ owes (c : Thread nD τ) (recvDue c (j.val + 1)) W)
          -∗ wp frame (wpE defs 𝒱 (c : Thread nD τ) none) Set.univ (k ⟨⟩) Q)
        -∗ wp frame (wpE defs 𝒱 (c : Thread nD τ) none) Set.univ
          (.op (.enqueueDma accM (.remote (Dev.tc n) dst (.dma s) hsc) (.dma r) h1 h2 h3) k) Q) := by
  subst hn; subst hd; subst hs; subst hr
  unfold sendKit barPay
  iintro ⟨#HR, ⟨HtS, #HrS, HtR, ⟨%fd, Hs⟩, #HrR⟩, Ha, HO⟩ Hk
  iapply (Rounds.wp_send_pointsTo 𝒱 ER (xRd m) (c : Thread nD τ) none (c' := (nxt j c : Thread nD τ)) (src := accM) (dst := slotM j)
      (sS := .dma (sendS j)) (sem := .dma (recvS j)) (q := lentShare j) (fs := accFin m c) (κ₁ := K (sendCell c j)) (κ₂ := K (recvCell (nxt j c) j))
      (r₁ := 0) (r₂ := 0) (d₁ := 0) (d₂ := 0) (fd := fd)
      (by rw [duties_send]; exact Finset.mem_singleton_self _) (by rw [duties_recv]; exact Finset.mem_singleton_self _)
      () () N (slot_credit j) (amount_send m c j 0) (amount_recv m (nxt j c) j 0) (recvDue c (j.val + 1)) (recvDue_step c j) (W := W)
      (by rw [payload_send]; exact BI.Entails.refl _)
      (by
        rw [payload_recv]; unfold recvPay; rw [prv_nxt]
        iintro H; iexists fd; iexact H)) $$ [Ha Hs HO HtS HtR]
  · isplitr; · iapply (inv_at m K (send_mem c j)); iexact HR
    isplitr; · iapply (inv_at m K (recv_mem (nxt j c) j)); iexact HR
    isplitl [Ha]; · iexact Ha
    isplitl [Hs]; · iexact Hs
    isplitl [HO]; · iexact HO
    isplitl [HtS]; · iexact HtS
    isplitr; · iexact HrS
    isplitl [HtR]; · iexact HtR
    iexact HrR
  iexact Hk

/-- Waiting for slot `j`, owing nothing, brings the slot at what landed; the cell closes. -/
theorem step_recv (j : Fin 7) {r : DmaSem sig} (hr : r = recvS j) {dst : Memref sig .tc .vmem S2x2048 .f32} (hd : dst = slotM j)
    {h1 : accM.view.WordExact} {h2 : dst.view.WordExact} {W : Waits sig Unit} :
    iprop(records m K ∗ cred (tallyAt (recvCell c j) () N) ∗ atPos ER (recvCell c j) 0 ∅ 0 ∗ owes (c : Thread nD τ) (0 : CellTallies nD τ sig Unit) W)
      ⊢ iprop((((∃ W, owes (c : Thread nD τ) (0 : CellTallies nD τ sig Unit) W) ∗ semVal (recvCell c j) 0 ∗ recvPay m c j)
          -∗ wp frame (wpE defs 𝒱 (c : Thread nD τ) none) Set.univ (k ⟨⟩) Q)
        -∗ wp frame (wpE defs 𝒱 (c : Thread nD τ) none) Set.univ (.op (.waitDma2 r accM dst h1 h2) k) Q) := by
  subst hr; subst hd
  iintro ⟨#HR, Hc, Hat, HO⟩ Hk
  iapply (Rounds.wp_wait_rest_token 𝒱 ER (xRd m) (c : Thread nD τ) none (κ := K (recvCell c j))
      (wpE_waitDma2_eq (src := accM) (dst := slotM j) 𝒱 (c : Thread nD τ) none Set.univ) (Set.mem_univ _) () (O := 0) (W := W) (R := 0) (m := 0) (T := ∅)
      ((Nat.zero_add _).trans ((slot_credit j).trans (expect_recv m c j).symm))) $$ [Hc HO Hat]
  · isplitr; · iapply (inv_at m K (recv_mem c j)); iexact HR
    isplitl [Hc]; · rw [slot_credit]; iexact Hc
    isplitl [HO]; · iexact HO
    isplitr; · rw [MayWait_zero]; iempintro
    iexact Hat
  iintro ⟨HO, Hat, -, Hpay⟩
  ihave Hp := (Entails.of_eq (rest_recv m c j)) $$ Hpay
  imod (close m (K (recvCell c j)) (recvCell c j)) $$ [Hat] with Hv
  · isplitr; · iapply (inv_at m K (recv_mem c j)); iexact HR
    iexact Hat
  iapply Hk
  isplitl [HO]; · iexists _; iexact HO
  isplitl [Hv]; · iexact Hv
  iexact Hp

/-- Waiting for copy `j` to have left, owing nothing, brings the share of the accumulator back; the cell closes. -/
theorem step_sent (j : Fin 7) {r : DmaSem sig} (hr : r = sendS j) {src : Memref sig .tc .vmem S2x2048 .f32}
    {h1 : src.view.WordExact} {h2 : accM.view.WordExact} {W : Waits sig Unit} :
    iprop(records m K ∗ cred (tallyAt (sendCell c j) () N) ∗ atPos ER (sendCell c j) 0 ∅ 0 ∗ owes (c : Thread nD τ) (0 : CellTallies nD τ sig Unit) W)
      ⊢ iprop((((∃ W, owes (c : Thread nD τ) (0 : CellTallies nD τ sig Unit) W) ∗ semVal (sendCell c j) 0 ∗ accPts m c (lentShare j))
          -∗ wp frame (wpE defs 𝒱 (c : Thread nD τ) none) Set.univ (k ⟨⟩) Q)
        -∗ wp frame (wpE defs 𝒱 (c : Thread nD τ) none) Set.univ (.op (.waitDma2 r src accM h1 h2) k) Q) := by
  subst hr
  iintro ⟨#HR, Hc, Hat, HO⟩ Hk
  iapply (Rounds.wp_wait_rest_token 𝒱 ER (xRd m) (c : Thread nD τ) none (κ := K (sendCell c j))
      (wpE_waitDma2_eq (src := src) (dst := accM) 𝒱 (c : Thread nD τ) none Set.univ) (Set.mem_univ _) () (O := 0) (W := W) (R := 0) (m := 0) (T := ∅)
      ((Nat.zero_add _).trans (expect_send m c j).symm)) $$ [Hc HO Hat]
  · isplitr; · iapply (inv_at m K (send_mem c j)); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  imod (close m (K (sendCell c j)) (sendCell c j)) $$ [Hat] with Hv
  · isplitr; · iapply (inv_at m K (send_mem c j)); iexact HR
    iexact Hat
  iapply Hk
  isplitl [HO]; · iexists _; iexact HO
  isplitl [Hv]; · iexact Hv
  unfold sendPay
  iexact Hp

/-- Loading slot `j` after its arrival reads the sender's sums. -/
theorem step_slot (j : Fin 7) {off : Fin 3 → ℕ} (ho : off = ![j.val, 0, 0]) {hb : ∀ a, off a + S1x2x2048.size a ≤ S7x2x2048.size a}
    {hl : commM.view.LoadsAt (Rect.unit (s := S7x2x2048) off S1x2x2048.size hb).toLoadRect}
    {k : (S1x2x2048.Idx → Elt F .f32) → Prog (TpuEff nD τ sig (Elt F) Λ .tc) α} :
    (recvPay m c j : sProp 𝕄)
      ⊢ iprop((recvPay m c j -∗ wp frame (wpE defs 𝒱 (c : Thread nD τ) none) Set.univ (k (lifted (accFin m (prv j c)))) Q)
        -∗ wp frame (wpE defs 𝒱 (c : Thread nD τ) none) Set.univ
          (.op (.load commM (Rect.unit (s := S7x2x2048) off S1x2x2048.size hb).toLoadRect hl) k) Q) := by
  subst ho
  unfold recvPay
  iintro ⟨%fd, H⟩ Hk
  have hld : (slotPts c j ((slotM j).view.write (Elt F) fd (accFin m (prv j c)) Finset.univ) : sProp 𝕄)
      ⊢ iprop((slotPts c j ((slotM j).view.write (Elt F) fd (accFin m (prv j c)) Finset.univ)
            -∗ wp frame (wpE defs 𝒱 (c : Thread nD τ) none) Set.univ
              (k ((commM.access (slotR j)).read (Elt F) ((slotM j).view.write (Elt F) fd (accFin m (prv j c)) Finset.univ))) Q)
        -∗ wp frame (wpE defs 𝒱 (c : Thread nD τ) none) Set.univ
          (.op (.load commM (Rect.unit (s := S7x2x2048) ![j.val, 0, 0] S1x2x2048.size hb).toLoadRect hl) k) Q) :=
    wp_load_rect 𝒱 (c : Thread nD τ) none Set.univ (m := commM) (r := slotR j) (S := (slotM j).view.set)
      (by rw [slot_set, View.set_slice]; exact (Finset.map_refl (s := (slotR j).set)).le)
  rw [slot_read j fd] at hld
  iapply hld $$ H
  iintro H
  iapply Hk
  iexists fd
  iexact H

end Cert.Proof

end
-- ==== Proof.BodyMid.lean ====
/-
  The body at a grid point that neither opens nor closes the exchange: two blocks of rows are folded into the accumulator.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's body on the memrefs `a1` … `a5` of the windows and the kernel's own scratch. -/
abbrev bodyOn (i : grid0.Coords) (a1 a2 a3 a4 : Memref sig .tc .vmem S512x2048 .bf16) (h1 : a1.IsWhole) (h2 : a2.IsWhole)
    (h3 : a3.IsWhole) (h4 : a4.IsWhole) (a5 : Memref sig .tc .vmem S2x2048 .f32) (h5 : a5.IsWhole) :
    Prog (TpuEff nD τ sig (Elt F) Λ₀ .tc) PUnit :=
  cc0_body i a1 h1 a2 h2 a3 h3 a4 h4 a5 h5 accM (Memref.isWhole_whole _) commM (Memref.isWhole_whole _) cc0_scratch2 cc0_scratch3

theorem at_zero2 : (![0, 0] : Fin 2 → ℕ) = fun _ => 0 := by decide

/-- The four input blocks, owned at known contents. -/
def inputs (c : Dev nD) (a1 a2 a3 a4 : Memref sig .tc .vmem S512x2048 .bf16) (X1 X2 X3 X4 : Vec F S512x2048 .bf16) : sProp 𝕄 :=
  iprop(owns (c : Thread nD τ) a1 fullShare X1 ∗ owns (c : Thread nD τ) a2 fullShare X2
    ∗ owns (c : Thread nD τ) a3 fullShare X3 ∗ owns (c : Thread nD τ) a4 fullShare X4)

set_option maxHeartbeats 1600000 in
/-- At a middle point the accumulator takes one step and nothing else changes. -/
theorem run_mid (c : Dev nD) (i : grid0.Coords) (hc1 : ¬ k0_cond1 i = 1#1) (hc2 : ¬ k0_cond2 i = 1#1)
    (a1 a2 a3 a4 : Memref sig .tc .vmem S512x2048 .bf16) (h1 : a1.IsWhole) (h2 : a2.IsWhole) (h3 : a3.IsWhole) (h4 : a4.IsWhole)
    (a5 : Memref sig .tc .vmem S2x2048 .f32) (h5 : a5.IsWhole) (X1 X2 X3 X4 : Vec F S512x2048 .bf16) (a : Vec F S2x2048 .f32)
    (Q : PUnit → sProp (MT nD τ sig Unit (Elt F) ℕ UU ℕ)) :
    iprop(inputs c a1 a2 a3 a4 X1 X2 X3 X4 ∗ owns (c : Thread nD τ) accM fullShare a)
      ⊢ iprop(((inputs c a1 a2 a3 a4 X1 X2 X3 X4 ∗ owns (c : Thread nD τ) accM fullShare (accStep a X1 X2 X3 X4)) -∗ Q ⟨⟩)
        -∗ wp frame (wpE (defs₀ (F := F)) 𝒱₀ (c : Thread nD τ) none) Set.univ (bodyOn i a1 a2 a3 a4 h1 h2 h3 h4 a5 h5) Q) := by
  unfold bodyOn
  rw [cc0_body_eq_skeleton]
  unfold cc0_body_skel
  simp only [k0_part9_eq_skeleton, k0_part10_eq_skeleton, k0_part9_skel, k0_part10_skel, dif_neg hc1, dif_neg hc2,
    Prog.lift, Prog.bind_op, Prog.bind_ret, Prog.pure_eq_ret, wp_deviceId]
  unfold inputs
  iintro ⟨⟨H1, H2, H3, H4⟩, Ha⟩ Hk
  iapply (wp_load_all 𝒱₀ (c : Thread nD τ) none Set.univ _ at_zero2) $$ Ha
  iintro Ha
  iapply (wp_load_all 𝒱₀ (c : Thread nD τ) none Set.univ _ at_zero2) $$ H1
  iintro H1
  iapply (wp_load_all 𝒱₀ (c : Thread nD τ) none Set.univ _ at_zero2) $$ H2
  iintro H2
  iapply (wp_load_all 𝒱₀ (c : Thread nD τ) none Set.univ _ at_zero2) $$ Ha
  iintro Ha
  iapply (wp_store_all 𝒱₀ (c : Thread nD τ) none Set.univ at_zero2) $$ Ha
  iintro Ha
  iapply (wp_load_all 𝒱₀ (c : Thread nD τ) none Set.univ _ at_zero2) $$ Ha
  iintro Ha
  iapply (wp_load_all 𝒱₀ (c : Thread nD τ) none Set.univ _ at_zero2) $$ H3
  iintro H3
  iapply (wp_load_all 𝒱₀ (c : Thread nD τ) none Set.univ _ at_zero2) $$ H4
  iintro H4
  iapply (wp_load_all 𝒱₀ (c : Thread nD τ) none Set.univ _ at_zero2) $$ Ha
  iintro Ha
  iapply (wp_store_all 𝒱₀ (c : Thread nD τ) none Set.univ at_zero2) $$ Ha
  iintro Ha
  rw [wp_ret]
  imodintro
  iapply Hk
  isplitr [Ha]
  · isplitl [H1]; · iexact H1
    isplitl [H2]; · iexact H2
    isplitl [H3]; · iexact H3
    iexact H4
  unfold accStep
  iexact Ha

end Cert.Proof

end
-- ==== Proof.BodyFirst.lean ====
/-
  The body at the first grid point: the device tells every peer that its landing buffer is ready, waits until all seven
  have told it the same, clears the accumulator, and folds in the first two blocks.
-/
module

public import proofs.«01_k».proof.Proof.BodyMid

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Seven of something, one after another. -/
theorem seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide),
    bigSep_insert (by decide), bigSep_insert (by decide), bigSep_insert (by decide), bigSep_insert (by decide),
    bigSep_insert (by decide), bigSep_singleton]
  rfl

/-- The places the kernel computes for its signals are the peers. -/
theorem dev_signal (c : Dev nD) :
    k0_dev1 c = (nxt 0 c).val ∧ k0_dev2 c = (nxt 1 c).val ∧ k0_dev3 c = (nxt 2 c).val ∧ k0_dev4 c = (nxt 3 c).val
      ∧ k0_dev5 c = (nxt 4 c).val ∧ k0_dev6 c = (nxt 5 c).val ∧ k0_dev7 c = (nxt 6 c).val :=
  ⟨k0_dev1_eq c, k0_dev2_eq c, k0_dev3_eq c, k0_dev4_eq c, k0_dev5_eq c, k0_dev6_eq c, k0_dev7_eq c⟩

set_option maxHeartbeats 4000000 in
/-- At the first point the seven slots go out, seven come in, and the accumulator takes its first step from zero. -/
theorem run_first (K : GSem nD τ sig → ℕ) (c : Dev nD) (i : grid0.Coords) (hc1 : k0_cond1 i = 1#1) (hc2 : ¬ k0_cond2 i = 1#1)
    (a1 a2 a3 a4 : Memref sig .tc .vmem S512x2048 .bf16) (h1 : a1.IsWhole) (h2 : a2.IsWhole) (h3 : a3.IsWhole) (h4 : a4.IsWhole)
    (a5 : Memref sig .tc .vmem S2x2048 .f32) (h5 : a5.IsWhole) (X1 X2 X3 X4 : Vec F S512x2048 .bf16) (a : Vec F S2x2048 .f32)
    (W : Waits sig Unit) (Q : PUnit → sProp (MT nD τ sig Unit (Elt F) ℕ UU ℕ)) :
    iprop(inputs c a1 a2 a3 a4 X1 X2 X3 X4 ∗ owns (c : Thread nD τ) accM fullShare a
        ∗ records m K ∗ levAts L lv ∗ (bigSep Finset.univ fun j => signalKit c j)
        ∗ cred (tallyAt (barCell c) () 7) ∗ atPos ER (barCell c) 0 ∅ 0 ∗ owes (c : Thread nD τ) (O₀ c) W)
      ⊢ iprop(((inputs c a1 a2 a3 a4 X1 X2 X3 X4 ∗ owns (c : Thread nD τ) accM fullShare (accStep k0_pay6 X1 X2 X3 X4)
            ∗ (∃ W, owes (c : Thread nD τ) (recvDue c 0) W) ∗ semVal (barCell c) 0 ∗ bigSep Finset.univ fun j => barPay c j) -∗ Q ⟨⟩)
        -∗ wp frame (wpE (defs₀ (F := F)) 𝒱₀ (c : Thread nD τ) none) Set.univ (bodyOn i a1 a2 a3 a4 h1 h2 h3 h4 a5 h5) Q) := by
  obtain ⟨e1, e2, e3, e4, e5, e6, e7⟩ := dev_signal c
  unfold bodyOn
  rw [cc0_body_eq_skeleton]
  unfold cc0_body_skel
  simp only [k0_part9_eq_skeleton, k0_part10_eq_skeleton, k0_part9_skel, k0_part10_skel, k0_part1_eq_skeleton, k0_part1_skel,
    dif_pos hc1, dif_neg hc2, semSignalWord, semWaitWord, Prog.lift, Prog.bind_op, Prog.bind_ret, Prog.pure_eq_ret, wp_deviceId]
  unfold inputs O₀
  rw [seven (fun j => signalKit c j)]
  iintro ⟨⟨H1, H2, H3, H4⟩, Ha, #HR, #Hlev, ⟨S0, S1, S2, S3, S4, S5, S6⟩, Hc, Hat, HO⟩ Hk
  iapply (step_signal m 𝒱₀ K c 0 (Fin.ext e1) rfl) $$ [S0 HO]
  · isplitr; · iexact HR
    isplitl [S0]; · iexact S0
    iexact HO
  iintro HO
  iapply (step_signal m 𝒱₀ K c 1 (Fin.ext e2) rfl) $$ [S1 HO]
  · isplitr; · iexact HR
    isplitl [S1]; · iexact S1
    iexact HO
  iintro HO
  iapply (step_signal m 𝒱₀ K c 2 (Fin.ext e3) rfl) $$ [S2 HO]
  · isplitr; · iexact HR
    isplitl [S2]; · iexact S2
    iexact HO
  iintro HO
  iapply (step_signal m 𝒱₀ K c 3 (Fin.ext e4) rfl) $$ [S3 HO]
  · isplitr; · iexact HR
    isplitl [S3]; · iexact S3
    iexact HO
  iintro HO
  iapply (step_signal m 𝒱₀ K c 4 (Fin.ext e5) rfl) $$ [S4 HO]
  · isplitr; · iexact HR
    isplitl [S4]; · iexact S4
    iexact HO
  iintro HO
  iapply (step_signal m 𝒱₀ K c 5 (Fin.ext e6) rfl) $$ [S5 HO]
  · isplitr; · iexact HR
    isplitl [S5]; · iexact S5
    iexact HO
  iintro HO
  iapply (step_signal m 𝒱₀ K c 6 (Fin.ext e7) rfl) $$ [S6 HO]
  · isplitr; · iexact HR
    isplitl [S6]; · iexact S6
    iexact HO
  iintro HO
  ihave HO := (Entails.of_eq (show (owes (c : Thread nD τ) (recvDue c 0 + barDue c ((6 : Fin 7).val + 1)) W : sProp 𝕄)
    = owes (c : Thread nD τ) (recvDue c 0) W from by rw [show (6 : Fin 7).val + 1 = 7 from rfl, barDue_end, add_zero])) $$ HO
  iapply (step_barrier m 𝒱₀ K c rfl) $$ [Hc Hat HO]
  · isplitr; · iexact HR
    isplitr; · iexact Hlev
    isplitl [Hc]; · iexact Hc
    isplitl [Hat] <;> iassumption
  iintro ⟨HO, Hb, Hpay⟩
  iapply (wp_load_all 𝒱₀ (c : Thread nD τ) none Set.univ _ at_zero2) $$ Ha
  iintro Ha
  iapply (wp_store_all 𝒱₀ (c : Thread nD τ) none Set.univ at_zero2) $$ Ha
  iintro Ha
  iapply (wp_load_all 𝒱₀ (c : Thread nD τ) none Set.univ _ at_zero2) $$ Ha
  iintro Ha
  iapply (wp_load_all 𝒱₀ (c : Thread nD τ) none Set.univ _ at_zero2) $$ H1
  iintro H1
  iapply (wp_load_all 𝒱₀ (c : Thread nD τ) none Set.univ _ at_zero2) $$ H2
  iintro H2
  iapply (wp_load_all 𝒱₀ (c : Thread nD τ) none Set.univ _ at_zero2) $$ Ha
  iintro Ha
  iapply (wp_store_all 𝒱₀ (c : Thread nD τ) none Set.univ at_zero2) $$ Ha
  iintro Ha
  iapply (wp_load_all 𝒱₀ (c : Thread nD τ) none Set.univ _ at_zero2) $$ Ha
  iintro Ha
  iapply (wp_load_all 𝒱₀ (c : Thread nD τ) none Set.univ _ at_zero2) $$ H3
  iintro H3
  iapply (wp_load_all 𝒱₀ (c : Thread nD τ) none Set.univ _ at_zero2) $$ H4
  iintro H4
  iapply (wp_load_all 𝒱₀ (c : Thread nD τ) none Set.univ _ at_zero2) $$ Ha
  iintro Ha
  iapply (wp_store_all 𝒱₀ (c : Thread nD τ) none Set.univ at_zero2) $$ Ha
  iintro Ha
  rw [wp_ret]
  imodintro
  iapply Hk
  isplitl [H1 H2 H3 H4]
  · isplitl [H1]; · iexact H1
    isplitl [H2]; · iexact H2
    isplitl [H3]; · iexact H3
    iexact H4
  isplitl [Ha]
  · unfold accStep; iexact Ha
  isplitl [HO]; · iexact HO
  isplitl [Hb]; · iexact Hb
  iexact Hpay

end Cert.Proof

end
-- ==== Proof.BodyLast.lean ====
/-
  The body at the last grid point: the last two blocks are folded in, the accumulator goes to all seven peers, and the
  seven contributions that arrive are added to the device's own sums, in slot order.
-/
module

public import proofs.«01_k».proof.Proof.BodyFirst

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The places the kernel computes for its copies are the peers. -/
theorem dev_copy (c : Dev nD) :
    k0_dev8 c = (nxt 0 c).val ∧ k0_dev9 c = (nxt 1 c).val ∧ k0_dev10 c = (nxt 2 c).val ∧ k0_dev11 c = (nxt 3 c).val
      ∧ k0_dev12 c = (nxt 4 c).val ∧ k0_dev13 c = (nxt 5 c).val ∧ k0_dev14 c = (nxt 6 c).val :=
  ⟨k0_dev8_eq c, k0_dev9_eq c, k0_dev10_eq c, k0_dev11_eq c, k0_dev12_eq c, k0_dev13_eq c, k0_dev14_eq c⟩

/-- What waiting for slot `j` takes. -/
def recvKit (c : Dev nD) (j : Fin 7) : sProp 𝕄 :=
  iprop(cred (tallyAt (recvCell c j) () N) ∗ atPos ER (recvCell c j) 0 ∅ 0)

set_option maxHeartbeats 8000000 in
/-- At the last point the sums go out, the seven contributions come in, the result is written and every counter is back. -/
theorem run_last (K : GSem nD τ sig → ℕ) (c : Dev nD) (i : grid0.Coords) (hc1 : ¬ k0_cond1 i = 1#1) (hc2 : k0_cond2 i = 1#1)
    (a1 a2 a3 a4 : Memref sig .tc .vmem S512x2048 .bf16) (h1 : a1.IsWhole) (h2 : a2.IsWhole) (h3 : a3.IsWhole) (h4 : a4.IsWhole)
    (a5 : Memref sig .tc .vmem S2x2048 .f32) (h5 : a5.IsWhole) (X1 X2 X3 X4 : Vec F S512x2048 .bf16) (a Y : Vec F S2x2048 .f32)
    (ha : accStep a X1 X2 X3 X4 = accFin m c) (W : Waits sig Unit) (Q : PUnit → sProp (MT nD τ sig Unit (Elt F) ℕ UU ℕ)) :
    iprop(inputs c a1 a2 a3 a4 X1 X2 X3 X4 ∗ owns (c : Thread nD τ) accM fullShare a ∗ owns (c : Thread nD τ) a5 fullShare Y
        ∗ records m K ∗ (bigSep Finset.univ fun j => sendKit c j) ∗ (bigSep Finset.univ fun j => recvKit c j)
        ∗ (bigSep Finset.univ fun j => atPos ER (sendCell c j) 0 ∅ 0) ∗ owes (c : Thread nD τ) (recvDue c 0) W)
      ⊢ iprop(((inputs c a1 a2 a3 a4 X1 X2 X3 X4 ∗ owns (c : Thread nD τ) accM fullShare (accFin m c)
            ∗ owns (c : Thread nD τ) a5 fullShare (outAt m c) ∗ (∃ W, owes (c : Thread nD τ) (0 : CellTallies nD τ sig Unit) W)
            ∗ (bigSep Finset.univ fun j => recvPay m c j) ∗ (bigSep Finset.univ fun j => semVal (sendCell c j) 0)
            ∗ bigSep Finset.univ fun j => semVal (recvCell c j) 0) -∗ Q ⟨⟩)
        -∗ wp frame (wpE (defs₀ (F := F)) 𝒱₀ (c : Thread nD τ) none) Set.univ (bodyOn i a1 a2 a3 a4 h1 h2 h3 h4 a5 h5) Q) := by
  obtain ⟨e1, e2, e3, e4, e5, e6, e7⟩ := dev_copy c
  unfold bodyOn
  rw [cc0_body_eq_skeleton]
  unfold cc0_body_skel
  simp only [k0_part9_eq_skeleton, k0_part10_eq_skeleton, k0_part9_skel, k0_part10_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    dif_neg hc1, dif_pos hc2, Prog.lift, Prog.bind_op, Prog.bind_ret, Prog.pure_eq_ret, wp_deviceId]
  unfold inputs
  rw [seven (fun j => sendKit c j), seven (fun j => recvKit c j), seven (fun j => atPos ER (sendCell c j) 0 ∅ 0)]
  unfold recvKit
  iintro ⟨⟨H1, H2, H3, H4⟩, Ha, H5, #HR, ⟨S0, S1, S2, S3, S4, S5, S6⟩, ⟨⟨C0, A0⟩, ⟨C1, A1⟩, ⟨C2, A2⟩, ⟨C3, A3⟩, ⟨C4, A4⟩, ⟨C5, A5⟩, ⟨C6, A6⟩⟩, ⟨B0, B1, B2, B3, B4, B5, B6⟩, HO⟩ Hk
  iapply (wp_load_all 𝒱₀ (c : Thread nD τ) none Set.univ _ at_zero2) $$ Ha
  iintro Ha
  iapply (wp_load_all 𝒱₀ (c : Thread nD τ) none Set.univ _ at_zero2) $$ H1
  iintro H1
  iapply (wp_load_all 𝒱₀ (c : Thread nD τ) none Set.univ _ at_zero2) $$ H2
  iintro H2
  iapply (wp_load_all 𝒱₀ (c : Thread nD τ) none Set.univ _ at_zero2) $$ Ha
  iintro Ha
  iapply (wp_store_all 𝒱₀ (c : Thread nD τ) none Set.univ at_zero2) $$ Ha
  iintro Ha
  iapply (wp_load_all 𝒱₀ (c : Thread nD τ) none Set.univ _ at_zero2) $$ Ha
  iintro Ha
  iapply (wp_load_all 𝒱₀ (c : Thread nD τ) none Set.univ _ at_zero2) $$ H3
  iintro H3
  iapply (wp_load_all 𝒱₀ (c : Thread nD τ) none Set.univ _ at_zero2) $$ H4
  iintro H4
  iapply (wp_load_all 𝒱₀ (c : Thread nD τ) none Set.univ _ at_zero2) $$ Ha
  iintro Ha
  iapply (wp_store_all 𝒱₀ (c : Thread nD τ) none Set.univ at_zero2) $$ Ha
  iintro Ha
  ihave Hs := (Entails.of_eq (show (owns (c : Thread nD τ) accM fullShare (k0_pay1 (k0_pay11 (k0_pay10 a (k0_pay8 X1 X2) (k0_pay9 X2)) X3 X4)) : sProp 𝕄)
      = iprop((accPts m c (lentShare 0) ∗ accPts m c (lentShare 1) ∗ accPts m c (lentShare 2) ∗ accPts m c (lentShare 3)
          ∗ accPts m c (lentShare 4) ∗ accPts m c (lentShare 5) ∗ accPts m c (lentShare 6)) ∗ owns (c : Thread nD τ) accM keptShare (accFin m c)) from by
    rw [show k0_pay1 (k0_pay11 (k0_pay10 a (k0_pay8 X1 X2) (k0_pay9 X2)) X3 X4) = accFin m c from ha, ← owns_acc, ← owns_acc, acc_shares,
      seven (fun j => accPts m c (lentShare j))])) $$ Ha
  icases Hs with ⟨⟨L0, L1, L2, L3, L4, L5, L6⟩, Ha⟩
  iapply (step_send m 𝒱₀ K c 0 (Fin.ext e1) rfl rfl rfl) $$ [S0 L0 HO]
  · isplitr; · iexact HR
    isplitl [S0]; · iexact S0
    isplitl [L0]; · iexact L0
    iexact HO
  iintro ⟨L0, HO⟩
  iapply (step_send m 𝒱₀ K c 1 (Fin.ext e2) rfl rfl rfl) $$ [S1 L1 HO]
  · isplitr; · iexact HR
    isplitl [S1]; · iexact S1
    isplitl [L1]; · iexact L1
    iexact HO
  iintro ⟨L1, HO⟩
  iapply (step_send m 𝒱₀ K c 2 (Fin.ext e3) rfl rfl rfl) $$ [S2 L2 HO]
  · isplitr; · iexact HR
    isplitl [S2]; · iexact S2
    isplitl [L2]; · iexact L2
    iexact HO
  iintro ⟨L2, HO⟩
  iapply (step_send m 𝒱₀ K c 3 (Fin.ext e4) rfl rfl rfl) $$ [S3 L3 HO]
  · isplitr; · iexact HR
    isplitl [S3]; · iexact S3
    isplitl [L3]; · iexact L3
    iexact HO
  iintro ⟨L3, HO⟩
  iapply (step_send m 𝒱₀ K c 4 (Fin.ext e5) rfl rfl rfl) $$ [S4 L4 HO]
  · isplitr; · iexact HR
    isplitl [S4]; · iexact S4
    isplitl [L4]; · iexact L4
    iexact HO
  iintro ⟨L4, HO⟩
  iapply (step_send m 𝒱₀ K c 5 (Fin.ext e6) rfl rfl rfl) $$ [S5 L5 HO]
  · isplitr; · iexact HR
    isplitl [S5]; · iexact S5
    isplitl [L5]; · iexact L5
    iexact HO
  iintro ⟨L5, HO⟩
  iapply (step_send m 𝒱₀ K c 6 (Fin.ext e7) rfl rfl rfl) $$ [S6 L6 HO]
  · isplitr; · iexact HR
    isplitl [S6]; · iexact S6
    isplitl [L6]; · iexact L6
    iexact HO
  iintro ⟨L6, HO⟩
  ihave HO := (Entails.of_eq (show (owes (c : Thread nD τ) (recvDue c ((6 : Fin 7).val + 1)) W : sProp 𝕄)
    = owes (c : Thread nD τ) (0 : CellTallies nD τ sig Unit) W from by rw [show (6 : Fin 7).val + 1 = 7 from rfl, recvDue_end])) $$ HO
  iapply (wp_load_all 𝒱₀ (c : Thread nD τ) none Set.univ _ at_zero2) $$ Ha
  iintro Ha
  iapply (step_recv m 𝒱₀ K c 0 rfl rfl) $$ [C0 A0 HO]
  · isplitr; · iexact HR
    isplitl [C0]; · iexact C0
    isplitl [A0]; · iexact A0
    iexact HO
  iintro ⟨⟨%W0, HO⟩, V0, P0⟩
  iapply (step_slot m 𝒱₀ c 0 rfl) $$ P0
  iintro P0
  iapply (step_recv m 𝒱₀ K c 1 rfl rfl) $$ [C1 A1 HO]
  · isplitr; · iexact HR
    isplitl [C1]; · iexact C1
    isplitl [A1]; · iexact A1
    iexact HO
  iintro ⟨⟨%W1, HO⟩, V1, P1⟩
  iapply (step_slot m 𝒱₀ c 1 rfl) $$ P1
  iintro P1
  iapply (step_recv m 𝒱₀ K c 2 rfl rfl) $$ [C2 A2 HO]
  · isplitr; · iexact HR
    isplitl [C2]; · iexact C2
    isplitl [A2]; · iexact A2
    iexact HO
  iintro ⟨⟨%W2, HO⟩, V2, P2⟩
  iapply (step_slot m 𝒱₀ c 2 rfl) $$ P2
  iintro P2
  iapply (step_recv m 𝒱₀ K c 3 rfl rfl) $$ [C3 A3 HO]
  · isplitr; · iexact HR
    isplitl [C3]; · iexact C3
    isplitl [A3]; · iexact A3
    iexact HO
  iintro ⟨⟨%W3, HO⟩, V3, P3⟩
  iapply (step_slot m 𝒱₀ c 3 rfl) $$ P3
  iintro P3
  iapply (step_recv m 𝒱₀ K c 4 rfl rfl) $$ [C4 A4 HO]
  · isplitr; · iexact HR
    isplitl [C4]; · iexact C4
    isplitl [A4]; · iexact A4
    iexact HO
  iintro ⟨⟨%W4, HO⟩, V4, P4⟩
  iapply (step_slot m 𝒱₀ c 4 rfl) $$ P4
  iintro P4
  iapply (step_recv m 𝒱₀ K c 5 rfl rfl) $$ [C5 A5 HO]
  · isplitr; · iexact HR
    isplitl [C5]; · iexact C5
    isplitl [A5]; · iexact A5
    iexact HO
  iintro ⟨⟨%W5, HO⟩, V5, P5⟩
  iapply (step_slot m 𝒱₀ c 5 rfl) $$ P5
  iintro P5
  iapply (step_recv m 𝒱₀ K c 6 rfl rfl) $$ [C6 A6 HO]
  · isplitr; · iexact HR
    isplitl [C6]; · iexact C6
    isplitl [A6]; · iexact A6
    iexact HO
  iintro ⟨⟨%W6, HO⟩, V6, P6⟩
  iapply (step_slot m 𝒱₀ c 6 rfl) $$ P6
  iintro P6
  iapply (wp_load_all 𝒱₀ (c : Thread nD τ) none Set.univ _ at_zero2) $$ H5
  iintro H5
  iapply (wp_store_all 𝒱₀ (c : Thread nD τ) none Set.univ at_zero2) $$ H5
  iintro H5
  iapply (step_sent m 𝒱₀ K c 0 rfl) $$ [L0 B0 HO]
  · isplitr; · iexact HR
    isplitl [L0]; · iexact L0
    isplitl [B0]; · iexact B0
    iexact HO
  iintro ⟨⟨%U0, HO⟩, T0, L0⟩
  iapply (step_sent m 𝒱₀ K c 1 rfl) $$ [L1 B1 HO]
  · isplitr; · iexact HR
    isplitl [L1]; · iexact L1
    isplitl [B1]; · iexact B1
    iexact HO
  iintro ⟨⟨%U1, HO⟩, T1, L1⟩
  iapply (step_sent m 𝒱₀ K c 2 rfl) $$ [L2 B2 HO]
  · isplitr; · iexact HR
    isplitl [L2]; · iexact L2
    isplitl [B2]; · iexact B2
    iexact HO
  iintro ⟨⟨%U2, HO⟩, T2, L2⟩
  iapply (step_sent m 𝒱₀ K c 3 rfl) $$ [L3 B3 HO]
  · isplitr; · iexact HR
    isplitl [L3]; · iexact L3
    isplitl [B3]; · iexact B3
    iexact HO
  iintro ⟨⟨%U3, HO⟩, T3, L3⟩
  iapply (step_sent m 𝒱₀ K c 4 rfl) $$ [L4 B4 HO]
  · isplitr; · iexact HR
    isplitl [L4]; · iexact L4
    isplitl [B4]; · iexact B4
    iexact HO
  iintro ⟨⟨%U4, HO⟩, T4, L4⟩
  iapply (step_sent m 𝒱₀ K c 5 rfl) $$ [L5 B5 HO]
  · isplitr; · iexact HR
    isplitl [L5]; · iexact L5
    isplitl [B5]; · iexact B5
    iexact HO
  iintro ⟨⟨%U5, HO⟩, T5, L5⟩
  iapply (step_sent m 𝒱₀ K c 6 rfl) $$ [L6 B6 HO]
  · isplitr; · iexact HR
    isplitl [L6]; · iexact L6
    isplitl [B6]; · iexact B6
    iexact HO
  iintro ⟨⟨%U6, HO⟩, T6, L6⟩
  rw [wp_ret]
  imodintro
  iapply Hk
  isplitl [H1 H2 H3 H4]
  · isplitl [H1]; · iexact H1
    isplitl [H2]; · iexact H2
    isplitl [H3]; · iexact H3
    iexact H4
  isplitl [Ha L0 L1 L2 L3 L4 L5 L6]
  · rw [← owns_acc m c fullShare, acc_shares, seven (fun j => accPts m c (lentShare j)), owns_acc m c keptShare]
    isplitr [Ha]
    · isplitl [L0]; · iexact L0
      isplitl [L1]; · iexact L1
      isplitl [L2]; · iexact L2
      isplitl [L3]; · iexact L3
      isplitl [L4]; · iexact L4
      isplitl [L5]; · iexact L5
      iexact L6
    iexact Ha
  isplitl [H5]
  · unfold outAt combine; iexact H5
  isplitl [HO]; · iexists _; iexact HO
  isplitl [P0 P1 P2 P3 P4 P5 P6]
  · rw [seven (fun j => recvPay m c j)]
    isplitl [P0]; · iexact P0
    isplitl [P1]; · iexact P1
    isplitl [P2]; · iexact P2
    isplitl [P3]; · iexact P3
    isplitl [P4]; · iexact P4
    isplitl [P5]; · iexact P5
    iexact P6
  isplitl [T0 T1 T2 T3 T4 T5 T6]
  · rw [seven (fun j => semVal (sendCell c j) 0)]
    isplitl [T0]; · iexact T0
    isplitl [T1]; · iexact T1
    isplitl [T2]; · iexact T2
    isplitl [T3]; · iexact T3
    isplitl [T4]; · iexact T4
    isplitl [T5]; · iexact T5
    iexact T6
  rw [seven (fun j => semVal (recvCell c j) 0)]
  isplitl [V0]; · iexact V0
  isplitl [V1]; · iexact V1
  isplitl [V2]; · iexact V2
  isplitl [V3]; · iexact V3
  isplitl [V4]; · iexact V4
  isplitl [V5]; · iexact V5
  iexact V6

end Cert.Proof

end
-- ==== Proof.States.lean ====
/-
  What the device holds between grid points: before the first, everything the launch dealt; in the middle, the lent
  slots of its peers and the accumulator after so many points; after the last, its scratch and every counter at zero.
-/
module

public import proofs.«01_k».proof.Proof.BodyLast

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The landing buffer and its slots -/

/-- The landing buffer, whole. -/
abbrev commPts (c : Dev nD) (f : Buf (Elt F) ((c : Thread nD τ).loc cc0_scratch1)) : sProp 𝕄 :=
  ((c : Thread nD τ).loc cc0_scratch1) ↦{fullShare} f

/-- The landing buffer deals its slots, one for each peer. -/
theorem comm_split (c : Dev nD) (f : Buf (Elt F) ((c : Thread nD τ).loc cc0_scratch1)) :
    (commPts c f : sProp 𝕄) ⊢ bigSep Finset.univ fun j => iprop(∃ f, slotPts c (rev j) f) := by
  have h0 (j : Fin 7) : (slotPts c j f : sProp 𝕄) ⊢ iprop(∃ f, slotPts c j f) := by iintro H; iexists f; iexact H
  have h1 : (bigSep Finset.univ fun j => (slotPts c j f : sProp 𝕄)) ⊢ bigSep Finset.univ fun j => iprop(∃ f, slotPts c j f) :=
    bigSep_mono fun j _ => h0 j
  have h2 : (commPts c f : sProp 𝕄) = bigSep Finset.univ fun j => slotPts c j f := by
    refine (Ring.pointsTo_blocks (fun j => (slotR j).set) slot_disjoint slot_cover f).trans (bigSep_congr fun j _ => ?_)
    rw [← slot_set j]
    rfl
  rw [h2]
  refine h1.trans ?_
  rw [bigSep_univ_equiv revEquiv (fun j => iprop(∃ f, slotPts c j f))]
  exact BI.Entails.refl _

/-- Some contents of the landing buffer. -/
def someComm {c : Dev nD} : Buf (Elt F) ((c : Thread nD τ).loc cc0_scratch1) :=
  fun _ => k0_pay6 (fun a => ⟨0, (by decide : ∀ a, 0 < S2x2048.size a) a⟩)

/-- Slot `j` at some contents. -/
abbrev slotSome (c : Dev nD) (j : Fin 7) : sProp 𝕄 :=
  iprop(∃ f : Buf (Elt F) ((c : Thread nD τ).loc cc0_scratch1), ((c : Thread nD τ).loc cc0_scratch1) ↦[(slotR j).set]{fullShare} f)

/-- A filled slot is a slot at some contents. -/
theorem slot_some (c : Dev nD) (j : Fin 7) : (recvPay m c j : sProp 𝕄) ⊢ slotSome c j := by
  unfold recvPay slotSome
  rw [← slot_set j]
  iintro ⟨%fd, H⟩
  iexists ((slotM j).view.write (Elt F) fd (accFin m (prv j c)) Finset.univ)
  iexact H

/-- The seven slots, filled, are the landing buffer at some contents. -/
theorem comm_join (c : Dev nD) : (bigSep Finset.univ fun j => (recvPay m c j : sProp 𝕄)) ⊢ iprop(∃ f, commPts c f) := by
  have h1 : (bigSep Finset.univ fun j => (recvPay m c j : sProp 𝕄)) ⊢ bigSep Finset.univ fun j => slotSome c j :=
    bigSep_mono fun j _ => slot_some m c j
  have h2 : (bigSep Finset.univ fun j => (slotSome c j : sProp 𝕄)) ⊢ iprop(∃ f, commPts c f) := by
    exact Ring.pointsTo_blocks_join_exists (ℓ := (c : Thread nD τ).loc cc0_scratch1) (fun j => (slotR j).set) slot_disjoint slot_cover
      (someComm (F := F) (c := c))
  refine BI.Entails.trans h1 ?_
  exact h2

/-! ## The states -/

/-- The tokens for signalling peer `j`. -/
def barToks (c : Dev nD) (j : Fin 7) : sProp 𝕄 :=
  iprop(dutyTok ER (barCell (nxt j c)) 0 (rev j) ∗ reached ER (recvCell c (rev j)) 0)
/-- The tokens for sending copy `j`. -/
def sendToks (c : Dev nD) (j : Fin 7) : sProp 𝕄 :=
  iprop(dutyTok ER (sendCell c j) 0 0 ∗ reached ER (sendCell c j) 0 ∗ dutyTok ER (recvCell (nxt j c) j) 0 0)

/-- What the launch dealt, the cells open. -/
def begun (c : Dev nD) : sProp 𝕄 :=
  iprop(∃ K, records m K ∗ levAts L lv ∗ cred (tallyAt (barCell c) () 7) ∗ atPos ER (barCell c) 0 ∅ 0
    ∗ (bigSep Finset.univ fun j => barToks c j) ∗ (bigSep Finset.univ fun j => sendToks c j)
    ∗ (bigSep Finset.univ fun j => recvKit c j) ∗ bigSep Finset.univ fun j => atPos ER (sendCell c j) 0 ∅ 0)

/-- Before the first point. -/
def atFirst (c : Dev nD) : sProp 𝕄 :=
  iprop(begun m c ∗ (∃ a, owns (c : Thread nD τ) accM fullShare a) ∗ ∃ f, commPts c f)

/-- After `n` points, the first passed and the last to come. -/
def atMiddle (c : Dev nD) (n : ℕ) : sProp 𝕄 :=
  iprop(∃ K, records m K ∗ owns (c : Thread nD τ) accM fullShare (accAt m c n) ∗ semVal (barCell c) 0
    ∗ (bigSep Finset.univ fun j => sendKit c j) ∗ (bigSep Finset.univ fun j => recvKit c j)
    ∗ bigSep Finset.univ fun j => atPos ER (sendCell c j) 0 ∅ 0)

/-- After the last point. -/
def atLast (c : Dev nD) : sProp 𝕄 :=
  iprop((∃ a, owns (c : Thread nD τ) accM fullShare a) ∗ (∃ f, commPts (F := F) c f) ∗ semVal (barCell c) 0
    ∗ (bigSep Finset.univ fun j => semVal (sendCell c j) 0) ∗ bigSep Finset.univ fun j => semVal (recvCell c j) 0)

/-- The tokens, the lent slots and the own slots are what the signals take. -/
theorem signal_kits (c : Dev nD) (f : Buf (Elt F) ((c : Thread nD τ).loc cc0_scratch1)) :
    iprop((bigSep Finset.univ fun j => barToks c j) ∗ commPts c f) ⊢ (bigSep Finset.univ fun j => signalKit c j : sProp 𝕄) := by
  have h (j : Fin 7) : iprop(barToks c j ∗ ∃ f, slotPts c (rev j) f) ⊢ (signalKit c j : sProp 𝕄) := by
    unfold barToks signalKit
    iintro ⟨⟨Ht, Hr⟩, Hs⟩
    isplitl [Ht]; · iexact Ht
    isplitl [Hs]; · iexact Hs
    iexact Hr
  refine (sep_mono_right (comm_split c f)).trans ?_
  rw [← bigSep_sep']
  exact bigSep_mono fun j _ => h j

/-- The tokens and what the barrier brought are what the copies take. -/
theorem send_kits (c : Dev nD) :
    iprop((bigSep Finset.univ fun j => sendToks c j) ∗ bigSep Finset.univ fun j => barPay c j)
      ⊢ (bigSep Finset.univ fun j => sendKit c j : sProp 𝕄) := by
  have h (j : Fin 7) : iprop(sendToks c j ∗ barPay c j) ⊢ (sendKit c j : sProp 𝕄) := by
    unfold sendToks sendKit
    iintro ⟨⟨H1, H2, H3⟩, H4⟩
    isplitl [H1]; · iexact H1
    isplitl [H2]; · iexact H2
    isplitl [H3]; · iexact H3
    iexact H4
  rw [← bigSep_sep']
  exact bigSep_mono fun j _ => h j

end Cert.Proof

end
-- ==== Proof.Points.lean ====
/-
  The pipeline's data on a device, and that the body does at each of the four grid points what they say.
-/
module

public import proofs.«01_k».proof.Proof.States

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The data -/

/-- The state before point `n`. -/
def stateAt (c : Dev nD) (n : ℕ) : sProp 𝕄 := if n = 0 then atFirst m c else if n = 4 then atLast c else atMiddle m c n
/-- What the device owes before point `n`. -/
def owedAt (c : Dev nD) (n : ℕ) : CellTallies nD τ sig Unit := if n = 0 then O₀ c else if n = 4 then 0 else recvDue c 0

/-- The input windows are left as found and the result window, at the last point, at the result. -/
def dat (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun _ => outAt m c
    | ⟨_ + 5, h⟩ => absurd h (Nat.not_lt.2 (Nat.le_add_left _ _))
  Φ t := stateAt m c t.val
  q w := Pipeline.shareOf spec0 w
  owed t := owedAt c t.val

theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl
theorem before_2 (c : Dev nD) (t : Fin cfg0.N) (d) : (dat m c).before 2 t d = iblk m c 2 t :=
  ((dat m c).before_in_eq_fetched 2 rfl (fun _ => rfl) (fun _ _ _ => rfl) (fun _ => rfl) t d).trans rfl
theorem before_3 (c : Dev nD) (t : Fin cfg0.N) (d) : (dat m c).before 3 t d = iblk m c 3 t :=
  ((dat m c).before_in_eq_fetched 3 rfl (fun _ => rfl) (fun _ _ _ => rfl) (fun _ => rfl) t d).trans rfl

/-! ## What is owed, as the pipeline states it -/

theorem owes_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO
  iexists W
  isplitr; · ipureintro; exact fun _ _ => Or.inl trivial
  iexact HO

theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-! ## The points -/

theorem cond_0 : k0_cond1 (grid0.coords t0_0) = 1#1 ∧ ¬ k0_cond2 (grid0.coords t0_0) = 1#1 := by decide
theorem cond_1 : ¬ k0_cond1 (grid0.coords t0_1) = 1#1 ∧ ¬ k0_cond2 (grid0.coords t0_1) = 1#1 := by decide
theorem cond_2 : ¬ k0_cond1 (grid0.coords t0_2) = 1#1 ∧ ¬ k0_cond2 (grid0.coords t0_2) = 1#1 := by decide
theorem cond_3 : ¬ k0_cond1 (grid0.coords t0_3) = 1#1 ∧ k0_cond2 (grid0.coords t0_3) = 1#1 := by decide

/-- What the body owes the pipeline at point `t`, the windows one by one. -/
def PointSpec (c : Dev nD) (t : Fin cfg0.N) (Y : (d : Vec F S2x2048 .f32) → sProp (MT nD τ sig Unit (Elt F) ℕ UU ℕ)) : Prop :=
  ∀ Q : PUnit → sProp (MT nD τ sig Unit (Elt F) ℕ UU ℕ), iprop(stateAt m c t.val ∗ (dat m c).owesAt () t.castSucc
      ∗ inputs c (win0_0.stage (cfg0.slots t 0)) (win0_1.stage (cfg0.slots t 1)) (win0_2.stage (cfg0.slots t 2)) (win0_3.stage (cfg0.slots t 3))
          (iblk m c 0 t) (iblk m c 1 t) (iblk m c 2 t) (iblk m c 3 t)
      ∗ ∃ d, owns (c : Thread nD τ) (win0_4.stage (cfg0.slots t 4)) fullShare ((dat m c).before 4 t d))
    ⊢ iprop(((stateAt m c (t.val + 1) ∗ (dat m c).owesAt () t.succ
          ∗ inputs c (win0_0.stage (cfg0.slots t 0)) (win0_1.stage (cfg0.slots t 1)) (win0_2.stage (cfg0.slots t 2)) (win0_3.stage (cfg0.slots t 3))
              (iblk m c 0 t) (iblk m c 1 t) (iblk m c 2 t) (iblk m c 3 t)
          ∗ ∃ d, Y d) -∗ Q ⟨⟩)
        -∗ wp frame (wpE (defs₀ (F := F)) 𝒱₀ (c : Thread nD τ) none) Set.univ (bodyAt0 t) Q)

/-- A point where the result window is only passed on. -/
abbrev passOn (c : Dev nD) (t : Fin cfg0.N) (d : Vec F S2x2048 .f32) : sProp 𝕄 :=
  owns (c : Thread nD τ) (win0_4.stage (cfg0.slots t 4)) fullShare ((dat m c).before 4 t d)

theorem point_0 (c : Dev nD) : PointSpec m c t0_0 (passOn m c t0_0) := by
  unfold PointSpec
  intro Q
  rw [show stateAt m c (t0_0.val) = atFirst m c from rfl, show stateAt m c (t0_0.val + 1) = atMiddle m c 1 from rfl]
  unfold atFirst begun atMiddle
  iintro ⟨⟨⟨%K, #HR, #Hlev, Hc, Hat, Hbt, Hst, Hrk, Hsa⟩, ⟨%a, Ha⟩, ⟨%f, Hf⟩⟩, HO, Hi, H4⟩ Hk
  ihave HO := (owes_out m c t0_0.castSucc (O₀ c) rfl) $$ HO
  icases HO with ⟨%W, HO⟩
  iapply (run_first m K c (grid0.coords t0_0) cond_0.1 cond_0.2 _ _ _ _ _ _ _ _ _ _ _ _ _ _ a W) $$ [Hi Ha Hbt Hf Hc Hat HO]
  · isplitl [Hi]; · iexact Hi
    isplitl [Ha]; · iexact Ha
    isplitr; · iexact HR
    isplitr; · iexact Hlev
    isplitl [Hbt Hf]
    · iapply (signal_kits c f)
      isplitl [Hbt]; · iexact Hbt
      iexact Hf
    isplitl [Hc]; · iexact Hc
    isplitl [Hat]; · iexact Hat
    iexact HO
  iintro ⟨Hi, Ha, ⟨%W', HO⟩, Hv, Hbp⟩
  iapply Hk
  isplitr [HO Hi H4]
  · iexists K
    isplitr; · iexact HR
    isplitl [Ha]; · iexact Ha
    isplitl [Hv]; · iexact Hv
    isplitl [Hst Hbp]
    · iapply (send_kits c)
      isplitl [Hst]; · iexact Hst
      iexact Hbp
    isplitl [Hrk]; · iexact Hrk
    iexact Hsa
  isplitl [HO]; · iapply (owes_in m c t0_0.succ (recvDue c 0) rfl W') $$ HO
  isplitl [Hi]; · iexact Hi
  iexact H4

theorem point_1 (c : Dev nD) : PointSpec m c t0_1 (passOn m c t0_1) := by
  unfold PointSpec
  intro Q
  rw [show stateAt m c (t0_1.val) = atMiddle m c 1 from rfl, show stateAt m c (t0_1.val + 1) = atMiddle m c 2 from rfl]
  unfold atMiddle
  iintro ⟨⟨%K, #HR, Ha, Hv, Hr⟩, HO, Hi, H4⟩ Hk
  iapply (run_mid c (grid0.coords t0_1) cond_1.1 cond_1.2) $$ [Hi Ha]
  · isplitl [Hi]; · iexact Hi
    iexact Ha
  iintro ⟨Hi, Ha⟩
  iapply Hk
  isplitl [Ha Hv Hr]
  · iexists K
    isplitr; · iexact HR
    isplitl [Ha]; · rw [show accAt m c 2 = _ from accAt_succ m c t0_1]; iexact Ha
    isplitl [Hv]; · iexact Hv
    iexact Hr
  isplitl [HO]; · iexact HO
  isplitl [Hi]; · iexact Hi
  iexact H4

theorem point_2 (c : Dev nD) : PointSpec m c t0_2 (passOn m c t0_2) := by
  unfold PointSpec
  intro Q
  rw [show stateAt m c (t0_2.val) = atMiddle m c 2 from rfl, show stateAt m c (t0_2.val + 1) = atMiddle m c 3 from rfl]
  unfold atMiddle
  iintro ⟨⟨%K, #HR, Ha, Hv, Hr⟩, HO, Hi, H4⟩ Hk
  iapply (run_mid c (grid0.coords t0_2) cond_2.1 cond_2.2) $$ [Hi Ha]
  · isplitl [Hi]; · iexact Hi
    iexact Ha
  iintro ⟨Hi, Ha⟩
  iapply Hk
  isplitl [Ha Hv Hr]
  · iexists K
    isplitr; · iexact HR
    isplitl [Ha]; · rw [show accAt m c 3 = _ from accAt_succ m c t0_2]; iexact Ha
    isplitl [Hv]; · iexact Hv
    iexact Hr
  isplitl [HO]; · iexact HO
  isplitl [Hi]; · iexact Hi
  iexact H4
theorem point_3 (c : Dev nD) : PointSpec m c t0_3 (fun _ => owns (c : Thread nD τ) (win0_4.stage (cfg0.slots t0_3 4)) fullShare (outAt m c)) := by
  unfold PointSpec
  intro Q
  rw [show stateAt m c (t0_3.val) = atMiddle m c 3 from rfl, show stateAt m c (t0_3.val + 1) = atLast c from rfl]
  unfold atMiddle atLast
  iintro ⟨⟨%K, #HR, Ha, Hv, Hsk, Hrk, Hsa⟩, HO, Hi, ⟨%d, H4⟩⟩ Hk
  ihave HO := (owes_out m c t0_3.castSucc (recvDue c 0) rfl) $$ HO
  icases HO with ⟨%W, HO⟩
  iapply (run_last m K c (grid0.coords t0_3) cond_3.1 cond_3.2 _ _ _ _ _ _ _ _ _ _ _ _ _ _ _ _ (accAt_succ m c t0_3).symm W) $$ [Hi Ha H4 Hsk Hrk Hsa HO]
  · isplitl [Hi]; · iexact Hi
    isplitl [Ha]; · iexact Ha
    isplitl [H4]; · iexact H4
    isplitr; · iexact HR
    isplitl [Hsk]; · iexact Hsk
    isplitl [Hrk]; · iexact Hrk
    isplitl [Hsa]; · iexact Hsa
    iexact HO
  iintro ⟨Hi, Ha, H4, ⟨%W', HO⟩, Hp, Hs, Hr⟩
  iapply Hk
  isplitr [HO Hi H4]
  · isplitl [Ha]; · iexists (accFin m c); iexact Ha
    isplitl [Hp]; · iapply (comm_join m c) $$ Hp
    isplitl [Hv]; · iexact Hv
    isplitl [Hs]; · iexact Hs
    iexact Hr
  isplitl [HO]; · iapply (owes_in m c t0_3.succ 0 rfl W') $$ HO
  isplitl [Hi]; · iexact Hi
  iexists (outAt m c)
  iexact H4

/-! ## The obligation -/

theorem idle_0 : idle0 4 (grid0.coords t0_0) = true := by decide
theorem idle_1 : idle0 4 (grid0.coords t0_1) = true := by decide
theorem idle_2 : idle0 4 (grid0.coords t0_2) = true := by decide
theorem idle_3 : idle0 4 (grid0.coords t0_3) = false := by decide
theorem flush_0 : (win0 4).flush t0_0 = false := by decide
theorem flush_1 : (win0 4).flush t0_1 = false := by decide
theorem flush_2 : (win0 4).flush t0_2 = false := by decide

/-- The body's obligation at every point. -/
theorem body (c : Dev nD) : BodyObligation (dat m c) (defs₀ (F := F)) 𝒱₀ () Set.univ := fun t => by
  rw [bigSep_W0, bigSep_W0]
  simp only [before_0, before_1, before_2, before_3]
  obtain rfl | rfl | rfl | rfl := fin_N0 t
  · have hp := point_0 m c
    unfold PointSpec inputs at hp
    rw [show (dat m c).Φ t0_0.castSucc = stateAt m c t0_0.val from rfl, show (dat m c).Φ t0_0.succ = stateAt m c (t0_0.val + 1) from rfl]
    iintro ⟨HΦ, HO, ⟨%d0, H0⟩, ⟨%d1, H1⟩, ⟨%d2, H2⟩, ⟨%d3, H3⟩, H4⟩
    iapply (hp _) $$ [HΦ HO H0 H1 H2 H3 H4]
    · isplitl [HΦ]; · iexact HΦ
      isplitl [HO]; · iexact HO
      isplitl [H0 H1 H2 H3]
      · isplitl [H0]; · iexact H0
        isplitl [H1]; · iexact H1
        isplitl [H2]; · iexact H2
        iexact H3
      iexact H4
    iintro ⟨HΦ, HO, ⟨H0, H1, H2, H3⟩, H4⟩
    isplitl [HΦ]; · iexact HΦ
    isplitl [HO]; · iexact HO
    isplitl [H0]; · iexact H0
    isplitl [H1]; · iexact H1
    isplitl [H2]; · iexact H2
    isplitl [H3]; · iexact H3
    rw [idle_0, flush_0]
    iexact H4
  · have hp := point_1 m c
    unfold PointSpec inputs at hp
    rw [show (dat m c).Φ t0_1.castSucc = stateAt m c t0_1.val from rfl, show (dat m c).Φ t0_1.succ = stateAt m c (t0_1.val + 1) from rfl]
    iintro ⟨HΦ, HO, ⟨%d0, H0⟩, ⟨%d1, H1⟩, ⟨%d2, H2⟩, ⟨%d3, H3⟩, H4⟩
    iapply (hp _) $$ [HΦ HO H0 H1 H2 H3 H4]
    · isplitl [HΦ]; · iexact HΦ
      isplitl [HO]; · iexact HO
      isplitl [H0 H1 H2 H3]
      · isplitl [H0]; · iexact H0
        isplitl [H1]; · iexact H1
        isplitl [H2]; · iexact H2
        iexact H3
      iexact H4
    iintro ⟨HΦ, HO, ⟨H0, H1, H2, H3⟩, H4⟩
    isplitl [HΦ]; · iexact HΦ
    isplitl [HO]; · iexact HO
    isplitl [H0]; · iexact H0
    isplitl [H1]; · iexact H1
    isplitl [H2]; · iexact H2
    isplitl [H3]; · iexact H3
    rw [idle_1, flush_1]
    iexact H4
  · have hp := point_2 m c
    unfold PointSpec inputs at hp
    rw [show (dat m c).Φ t0_2.castSucc = stateAt m c t0_2.val from rfl, show (dat m c).Φ t0_2.succ = stateAt m c (t0_2.val + 1) from rfl]
    iintro ⟨HΦ, HO, ⟨%d0, H0⟩, ⟨%d1, H1⟩, ⟨%d2, H2⟩, ⟨%d3, H3⟩, H4⟩
    iapply (hp _) $$ [HΦ HO H0 H1 H2 H3 H4]
    · isplitl [HΦ]; · iexact HΦ
      isplitl [HO]; · iexact HO
      isplitl [H0 H1 H2 H3]
      · isplitl [H0]; · iexact H0
        isplitl [H1]; · iexact H1
        isplitl [H2]; · iexact H2
        iexact H3
      iexact H4
    iintro ⟨HΦ, HO, ⟨H0, H1, H2, H3⟩, H4⟩
    isplitl [HΦ]; · iexact HΦ
    isplitl [HO]; · iexact HO
    isplitl [H0]; · iexact H0
    isplitl [H1]; · iexact H1
    isplitl [H2]; · iexact H2
    isplitl [H3]; · iexact H3
    rw [idle_2, flush_2]
    iexact H4
  · have hp := point_3 m c
    unfold PointSpec inputs at hp
    rw [show (dat m c).Φ t0_3.castSucc = stateAt m c t0_3.val from rfl, show (dat m c).Φ t0_3.succ = stateAt m c (t0_3.val + 1) from rfl]
    iintro ⟨HΦ, HO, ⟨%d0, H0⟩, ⟨%d1, H1⟩, ⟨%d2, H2⟩, ⟨%d3, H3⟩, H4⟩
    iapply (hp _) $$ [HΦ HO H0 H1 H2 H3 H4]
    · isplitl [HΦ]; · iexact HΦ
      isplitl [HO]; · iexact HO
      isplitl [H0 H1 H2 H3]
      · isplitl [H0]; · iexact H0
        isplitl [H1]; · iexact H1
        isplitl [H2]; · iexact H2
        iexact H3
      iexact H4
    iintro ⟨HΦ, HO, ⟨H0, H1, H2, H3⟩, ⟨%d, H4⟩⟩
    isplitl [HΦ]; · iexact HΦ
    isplitl [HO]; · iexact HO
    isplitl [H0]; · iexact H0
    isplitl [H1]; · iexact H1
    isplitl [H2]; · iexact H2
    isplitl [H3]; · iexact H3
    rw [idle_3]
    iexact H4

end Cert.Proof

end
-- ==== Proof.Region.lean ====
/-
  The kernel's region as a segment of the program: what it is entered with, how its cells open, and what it leaves.
-/
module

public import Idealize.ShloMosaic.Lib.Pipeline.RegionArrays
public import proofs.«01_k».proof.Proof.Points

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm

/-- The data, one pipeline. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- Fourteen of something: seven, then seven. -/
theorem fourteen (Φ : Fin 14 → sProp 𝕄) :
    bigSep Finset.univ Φ = iprop((bigSep Finset.univ fun j : Fin 7 => Φ (Fin.castAdd 7 j)) ∗ bigSep Finset.univ fun j : Fin 7 => Φ (Fin.natAdd 7 j)) := by
  rw [bigSep_univ_equiv (finSumFinEquiv (m := 7) (n := 7)) Φ, bigSep_univ_sum]
  rfl

theorem osem_send (j : Fin 7) : osem (Fin.castAdd 7 j) = .dma (sendS j) := rfl
theorem osem_recv (j : Fin 7) : osem (Fin.natAdd 7 j) = .dma (recvS j) :=
  congrArg SemLoc.dma (Fin.ext (by show 9 + (7 + j.val) = 16 + j.val; omega))

/-- The kernel's own counters, sorted. -/
theorem own_sems (c : Dev nD) : (Pipeline.ownSems0 osem c : sProp 𝕄)
    = iprop((bigSep Finset.univ fun j => semVal (sendCell c j) 0) ∗ bigSep Finset.univ fun j => semVal (recvCell c j) 0) := by
  unfold Pipeline.ownSems0
  rw [fourteen]
  refine congrArg₂ BI.sep (bigSep_congr fun j _ => rfl) (bigSep_congr fun j _ => ?_)
  rw [osem_recv]

/-! ## Opening the cells -/

/-- The rights that stay with a device. -/
def rights (c : Dev nD) : sProp 𝕄 :=
  iprop(atPos ER (barCell c) 0 ∅ 0 ∗ (bigSep Finset.univ fun k => openTok ER ((c : Thread nD τ), osem k))
    ∗ (bigSep Finset.univ fun j => dutyTok ER (barCell (nxt j c)) 0 (rev j))
    ∗ (bigSep Finset.univ fun j => dutyTok ER (sendCell c j) 0 0) ∗ bigSep Finset.univ fun j => dutyTok ER (recvCell (nxt j c) j) 0 0)

/-- What the launch deals device `c` for the exchange. -/
def dealt (c : Dev nD) : sProp 𝕄 :=
  iprop((∃ K, records m K ∗ rights c) ∗ cred (tallyAt (barCell c) () 7) ∗ bigSep Finset.univ fun j => cred (tallyAt (recvCell c j) () N))

theorem own_mem (c : Dev nD) (k : Fin 14) : (((c : Thread nD τ), osem k) : GSem nD τ sig) ∈ (barCells ∪ ownCells : Finset (GSem nD τ sig)) :=
  Finset.mem_union_right _ (Finset.mem_map_of_mem ownEmb (Finset.mem_univ (c, k)))

/-- One cell opens on its counter at zero. -/
theorem open_one (K : GSem nD τ sig → ℕ) (c : Dev nD) (k : Fin 14) :
    iprop(records m K ∗ openTok ER ((c : Thread nD τ), osem k) ∗ semVal ((c : Thread nD τ), osem k) 0)
      ⊢ iprop(|={Set.univ}=> (atPos ER ((c : Thread nD τ), osem k) 0 ∅ 0 ∗ reached ER ((c : Thread nD τ), osem k) 0) : sProp 𝕄) := by
  iintro ⟨#HR, Ho, Hv⟩
  iapply (Rounds.cell_open ER (xRd m) (g := ((c : Thread nD τ), osem k)) (Set.mem_univ (K ((c : Thread nD τ), osem k))))
  isplitr; · iapply (inv_at m K (own_mem c k)); iexact HR
  isplitl [Ho]; · iexact Ho
  iexact Hv

/-- All the device's own cells open. -/
theorem open_all (K : GSem nD τ sig → ℕ) (c : Dev nD) :
    iprop(records m K ∗ (bigSep Finset.univ fun k => openTok ER ((c : Thread nD τ), osem k)) ∗ Pipeline.ownSems0 osem c)
      ⊢ iprop(|={Set.univ}=> ((bigSep Finset.univ fun j => atPos ER (sendCell c j) 0 ∅ 0) ∗ (bigSep Finset.univ fun j => reached ER (sendCell c j) 0)
          ∗ (bigSep Finset.univ fun j => atPos ER (recvCell c j) 0 ∅ 0) ∗ (bigSep Finset.univ fun j => reached ER (recvCell c j) 0)) : sProp 𝕄) := by
  have h1 : iprop(records m K ∗ bigSep Finset.univ fun k : Fin 14 => iprop(openTok ER ((c : Thread nD τ), osem k) ∗ semVal ((c : Thread nD τ), osem k) 0))
      ⊢ (bigSep Finset.univ fun k : Fin 14 => iprop(|={Set.univ}=> (atPos ER ((c : Thread nD τ), osem k) 0 ∅ 0 ∗ reached ER ((c : Thread nD τ), osem k) 0)) : sProp 𝕄) :=
    bigSep_with_persistent fun k _ => open_one m K c k
  have h2 := h1.trans (bigSep_fupd _ _)
  rw [bigSep_sep', bigSep_sep', fourteen (fun k => atPos ER ((c : Thread nD τ), osem k) 0 ∅ 0), fourteen (fun k => reached ER ((c : Thread nD τ), osem k) 0)] at h2
  simp only [osem_send, osem_recv] at h2
  unfold Pipeline.ownSems0
  iintro ⟨#HR, Ho, Hv⟩
  imod h2 $$ [Ho Hv] with ⟨⟨H1, H2⟩, ⟨H3, H4⟩⟩
  · isplitr; · iexact HR
    isplitl [Ho]; · iexact Ho
    iexact Hv
  imodintro
  isplitl [H1]; · iexact H1
  isplitl [H3]; · iexact H3
  isplitl [H2]; · iexact H2
  iexact H4

/-- What was dealt, with the counters at zero, is what the first point starts from. -/
theorem open_dealt (c : Dev nD) : iprop(dealt m c ∗ Pipeline.ownSems0 osem c ∗ levAts L lv) ⊢ iprop(|={Set.univ}=> begun m c : sProp 𝕄) := by
  have hb : iprop((bigSep Finset.univ fun j => dutyTok ER (barCell (nxt j c)) 0 (rev j)) ∗ (bigSep Finset.univ fun j => reached ER (recvCell c j) 0))
      ⊢ (bigSep Finset.univ fun j => barToks c j : sProp 𝕄) := by
    rw [bigSep_univ_equiv revEquiv (fun j => reached ER (recvCell c j) 0), ← bigSep_sep']
    exact BI.Entails.refl _
  have hs : iprop((bigSep Finset.univ fun j => dutyTok ER (sendCell c j) 0 0) ∗ (bigSep Finset.univ fun j => reached ER (sendCell c j) 0)
      ∗ bigSep Finset.univ fun j => dutyTok ER (recvCell (nxt j c) j) 0 0) ⊢ (bigSep Finset.univ fun j => sendToks c j : sProp 𝕄) := by
    rw [← bigSep_sep', ← bigSep_sep']
    exact BI.Entails.refl _
  have hr : iprop((bigSep Finset.univ fun j => cred (tallyAt (recvCell c j) () N)) ∗ bigSep Finset.univ fun j => atPos ER (recvCell c j) 0 ∅ 0)
      ⊢ (bigSep Finset.univ fun j => recvKit c j : sProp 𝕄) := by
    rw [← bigSep_sep']
    exact BI.Entails.refl _
  unfold dealt rights begun
  iintro ⟨⟨⟨%K, #HR, Hat, Ho, HtB, HtS, HtR⟩, Hc, Hcr⟩, Hv, #Hlev⟩
  imod (open_all m K c) $$ [Ho Hv] with ⟨HaS, HrS, HaR, HrR⟩
  · isplitr; · iexact HR
    isplitl [Ho]; · iexact Ho
    iexact Hv
  imodintro
  iexists K
  isplitr; · iexact HR
  isplitr; · iexact Hlev
  isplitl [Hc]; · iexact Hc
  isplitl [Hat]; · iexact Hat
  isplitl [HtB HrR]
  · iapply hb
    isplitl [HtB]; · iexact HtB
    iexact HrR
  isplitl [HtS HrS HtR]
  · iapply hs
    isplitl [HtS]; · iexact HtS
    isplitl [HrS]; · iexact HrS
    iexact HtR
  isplitl [Hcr HaR]
  · iapply hr
    isplitl [Hcr]; · iexact Hcr
    iexact HaR
  iexact HaS

/-! ## The staging semaphores lie below -/

theorem stage_low : ∀ (w : Fin 5) (s : Fin (spec0 w).nbuf), ((spec0 w).sem s).val < 9 := by decide

theorem stage_lv (c : Dev nD) (w : Fin 5) (s : Fin (spec0 w).nbuf) : lv ((c : Thread nD τ), .dma ((spec0 w).sem s)) () = 0 := by
  have h := stage_low w s
  dsimp only [lv, part]
  rw [dif_neg (by omega), dif_neg (by omega)]

theorem owed_high (c : Dev nD) (n : ℕ) (g : GSem nD τ sig) (u : Unit) (h : 0 < owedAt c n g u) : u ∈ L g ∧ 0 < lv g u := by
  have hr (h : 0 < recvDue c 0 g u) : u ∈ L g ∧ 0 < lv g u := by
    obtain ⟨i, rfl⟩ := recvDue_pos h
    exact ⟨by rw [L_tc]; exact Finset.mem_singleton_self _, by dsimp only [lv]; rw [part_recv]; exact Nat.two_pos⟩
  unfold owedAt at h
  split at h
  · unfold O₀ at h
    rw [Pi.add_apply, Finsupp.add_apply] at h
    rcases Nat.add_pos_iff_pos_or_pos.mp h with h | h
    · exact hr h
    · obtain ⟨i, rfl⟩ := barDue_pos h
      exact ⟨by rw [L_tc]; exact Finset.mem_singleton_self _, by dsimp only [lv]; rw [part_bar]; exact Nat.one_pos⟩
  · split at h
    · exact absurd h (Nat.lt_irrefl 0)
    · exact hr h

/-! ## The region -/

/-- The kernel's own semaphores are scoped, distinct and apart from the staging ones. -/
theorem own_facts : Pipeline.OwnSemFacts spec0 osem := by decide

/-- The arrays after the region, and the argument that the kernel does not read. -/
def ended (c : Dev nD) : sProp 𝕄 :=
  iprop((dat m c).arrays ((dat m c).arrAt · cfg0.N) ∗ Pipeline.unscopedRest spec0 c (V m c) ∗ semVal (barCell c) 0)

set_option backward.isDefEq.respectTransparency.types false in
/-- The region: entered with the arrays, what was dealt and what is owed; left with the arrays written and nothing owed. -/
def region : Pipeline.RegionSeg (pcfgs (F := F)) adm (pdats m) () (defs₀ (F := F)) 𝒱₀ L lv 0 where
  win := winFacts₀0
  block_pos := block_pos0
  stage_whole := stage_whole0
  K := Fin 14
  osem := osem
  ho := own_facts
  hbody c := (body m c).loose
  hwaits c := Pipeline.cellsWaits_intro (Pipeline.pin (pcfgs (F := F)) adm) (pdats m) () 0 c fun w s t =>
    MayOwe.of_cut 0 (fun q hq => by rw [Finset.mem_singleton.mp hq, L_tc]; exact Finset.mem_singleton_self _)
      (fun g i hg => (owed_high c t.val g i hg).1) (fun q hq => by rw [Finset.mem_singleton.mp hq]; exact le_of_eq (stage_lv c w s))
      (fun g i hg => (owed_high c t.val g i hg).2)
  pre c := iprop(unscopedBufs c (V m c) ∗ dealt m c ∗ ∃ W, owes (c : Thread nD τ) (O₀ c) W)
  post c := iprop(ended m c ∗ ∃ W, owes (c : Thread nD τ) (0 : CellTallies nD τ sig Unit) W)
  X c := begun m c
  Y c := semVal (barCell c) 0
  Z c := Pipeline.unscopedRest spec0 c (V m c)
  hentry c := by
    have ha : (unscopedBufs c (V m c) : sProp 𝕄) ⊢ iprop((pdats m 0 c).arrays ((pdats m 0 c).arrAt · 0) ∗ Pipeline.unscopedRest spec0 c (V m c)) :=
      Pipeline.arrays_of_unscopedBufs_shared (pcfgs (F := F)) adm (pdats m) (p := 0) winFacts₀0 sharedIn0 arr_whole0 c (fun _ _ => rfl) (V m c) (fun _ => rfl)
    rw [Pipeline.prefHeld_of_none _ rfl]
    iintro ⟨⟨Hu, Hd, ⟨%W, HO⟩⟩, Hos, HL⟩
    imod (open_dealt m c) $$ [Hd Hos HL] with HX
    · isplitl [Hd]; · iexact Hd
      isplitl [Hos]; · iexact Hos
      iexact HL
    ihave Ha := ha $$ Hu
    icases Ha with ⟨Ha, Hz⟩
    imodintro
    isplitl [Ha]; · iexact Ha
    isplitr; · iempintro
    isplitl [HO]; · iapply (owes_in m c 0 (O₀ c) rfl W) $$ HO
    isplitl [HX]; · iexact HX
    iexact Hz
  hin c := by
    rw [show (pdats m 0 c).Φ 0 = atFirst m c from rfl]
    rw [show (Pipeline.scopedRest (Pipeline.pin (pcfgs (F := F)) adm 0).spec c : sProp 𝕄)
      = iprop((∃ f : Buf (Elt F) ((c : Thread nD τ).loc cc0_scratch0), ((c : Thread nD τ).loc cc0_scratch0) ↦{fullShare} f)
          ∗ (∃ f, commPts (F := F) c f)) from scopedRest0_eq c]
    unfold atFirst
    iintro ⟨HX, -, ⟨%a, Ha⟩, Hf⟩
    isplitl [HX]; · iexact HX
    isplitl [Ha]; · iexists a; rw [owns_whole]; iexact Ha
    iexact Hf
  hout c := by
    rw [show (pdats m 0 c).Φ (Fin.last _) = atLast c from rfl]
    rw [show (Pipeline.scopedRest (Pipeline.pin (pcfgs (F := F)) adm 0).spec c : sProp 𝕄)
      = iprop((∃ f : Buf (Elt F) ((c : Thread nD τ).loc cc0_scratch0), ((c : Thread nD τ).loc cc0_scratch0) ↦{fullShare} f)
          ∗ (∃ f, commPts (F := F) c f)) from scopedRest0_eq c, own_sems]
    unfold atLast
    iintro ⟨⟨%a, Ha⟩, Hf, Hv, Hs, Hr⟩
    isplitl [Hv]; · iexact Hv
    isplitl [Hs Hr]
    · isplitl [Hs]; · iexact Hs
      iexact Hr
    isplitl [Ha]; · iexists a; rw [← owns_whole]; iexact Ha
    iexact Hf
  hexit c := by
    unfold ended
    iintro ⟨Ha, HO, HY, HZ⟩
    imodintro
    isplitr [HO]
    · isplitl [Ha]; · iexact Ha
      isplitl [HZ]; · iexact HZ
      iexact HY
    have ho : (pdats m 0 c).owesAt () (Fin.last _) ⊢ iprop(∃ W, owes (c : Thread nD τ) (0 : CellTallies nD τ sig Unit) W : sProp 𝕄) :=
      owes_out m c (Fin.last _) 0 rfl
    iapply ho $$ HO

end Cert.Proof

end
-- ==== Proof.Deal.lean ====
/-
  What a launch deals out: who starts with which duty token and which credit, and every device's holdings at entry.
-/
module

public import proofs.«01_k».proof.Proof.Region

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Tokens -/

/-- The duties of one device's cells: seven at its barrier, one at each sending and each receiving cell. -/
abbrev DutyIx := Fin 7 ⊕ Fin 7 ⊕ Fin 7

def dutyAt : Dev nD × DutyIx → GSem nD τ sig × ℕ × Fin 7
  | (c, .inl i) => (barCell c, 0, i)
  | (c, .inr (.inl j)) => (sendCell c j, 0, 0)
  | (c, .inr (.inr j)) => (recvCell c j, 0, 0)

theorem dutyAt_dev (x : Dev nD × DutyIx) : (dutyAt x).1.1.1 = x.1 := by
  obtain ⟨c, i | j | j⟩ := x <;> rfl

theorem cell_dma_inj {c d : Dev nD} {a b : DmaSem sig}
    (h : (((c : Thread nD τ), SemLoc.dma a) : GSem nD τ sig) = ((d : Thread nD τ), SemLoc.dma b)) : a.val = b.val :=
  congrArg Fin.val (SemLoc.dma.inj (congrArg Prod.snd h))
theorem sendS_val (j : Fin 7) : (sendS j).val = 9 + j.val := rfl
theorem recvS_val (j : Fin 7) : (recvS j).val = 16 + j.val := rfl

theorem dutyAt_inj : Function.Injective dutyAt := by
  rintro ⟨c, x⟩ ⟨d, y⟩ h
  obtain rfl : c = d := (dutyAt_dev (c, x)).symm.trans ((congrArg (fun z => z.1.1.1) h).trans (dutyAt_dev (d, y)))
  refine Prod.ext rfl ?_
  show x = y
  have h1 := congrArg Prod.fst h
  have h2 := congrArg (fun z => z.2.2) h
  rcases x with i | j | j <;> rcases y with i' | j' | j'
  · exact congrArg Sum.inl h2
  · exact absurd (congrArg Prod.snd h1) (fun e => by cases e)
  · exact absurd (congrArg Prod.snd h1) (fun e => by cases e)
  · exact absurd (congrArg Prod.snd h1) (fun e => by cases e)
  · have e := cell_dma_inj h1; rw [sendS_val, sendS_val] at e
    rw [show j = j' from Fin.ext (by omega)]
  · have e := cell_dma_inj h1; rw [sendS_val, recvS_val] at e; have := j.isLt; omega
  · exact absurd (congrArg Prod.snd h1) (fun e => by cases e)
  · have e := cell_dma_inj h1; rw [sendS_val, recvS_val] at e; have := j'.isLt; omega
  · have e := cell_dma_inj h1; rw [recvS_val, recvS_val] at e
    rw [show j = j' from Fin.ext (by omega)]

/-- All duty tokens. -/
def allToks : Finset (GSem nD τ sig × ℕ × Fin 7) := Finset.univ.map ⟨dutyAt, dutyAt_inj⟩

/-- A family over devices and peers, read from the other end of each pair. -/
theorem bigSep_around (Φ : Fin 7 → Dev nD → sProp 𝕄) :
    (bigSep Finset.univ fun c => bigSep Finset.univ fun j => Φ j c) = bigSep Finset.univ fun c => bigSep Finset.univ fun j => Φ j (nxt j c) := by
  rw [Pipeline.bigSep_univ_comm, Pipeline.bigSep_univ_comm (fun (c : Dev nD) (j : Fin 7) => Φ j (nxt j c))]
  exact bigSep_congr fun j _ => bigSep_univ_equiv (around j) (Φ j)

/-- The tokens, each at the device that pays its duty. -/
theorem toks_dealt : bigSep allToks (fun x => (dutyTok ER x.1 x.2.1 x.2.2 : sProp 𝕄))
    = bigSep Finset.univ fun c : Dev nD => iprop((bigSep Finset.univ fun j => dutyTok ER (barCell (nxt j c)) 0 (rev j))
      ∗ (bigSep Finset.univ fun j => dutyTok ER (sendCell c j) 0 0) ∗ bigSep Finset.univ fun j => dutyTok ER (recvCell (nxt j c) j) 0 0) := by
  have h1 : bigSep allToks (fun x => (dutyTok ER x.1 x.2.1 x.2.2 : sProp 𝕄))
      = bigSep Finset.univ fun c : Dev nD => iprop((bigSep Finset.univ fun j => dutyTok ER (barCell c) 0 j)
        ∗ (bigSep Finset.univ fun j => dutyTok ER (sendCell c j) 0 0) ∗ bigSep Finset.univ fun j => dutyTok ER (recvCell c j) 0 0) := by
    unfold allToks
    rw [bigSep_map, bigSep_univ_prod]
    refine bigSep_congr fun c _ => ?_
    rw [bigSep_univ_sum, bigSep_univ_sum]
    rfl
  rw [h1, bigSep_sep', bigSep_sep', bigSep_sep', bigSep_sep']
  rw [bigSep_around (fun j c => dutyTok ER (recvCell c j) 0 0), ← bigSep_around (fun j c => dutyTok ER (barCell c) 0 (rev j))]
  refine congrArg (fun X => BI.sep X _) (bigSep_congr fun c _ => ?_)
  exact bigSep_univ_equiv revEquiv (fun j => dutyTok ER (barCell c) 0 j)

theorem disjoint_cells : Disjoint (barCells : Finset (GSem nD τ sig)) ownCells := by
  rw [Finset.disjoint_left]
  intro g h1 h2
  obtain ⟨c, -, rfl⟩ := Finset.mem_map.mp h1
  obtain ⟨ck, -, h⟩ := Finset.mem_map.mp h2
  exact osem_ne_bar ck.2 (congrArg Prod.snd h)

/-! ## Credits -/

theorem barDue_at (d c : Dev nD) : barDue d 0 (barCell c) () = ∑ i : Fin 7, if c = nxt i d then 1 else 0 := by
  unfold barDue
  rw [sum_tally_apply]
  refine Finset.sum_congr (by decide) fun i _ => if_congr ⟨fun h => ?_, fun h => by rw [h]⟩ rfl rfl
  exact congrArg (fun g : GSem nD τ sig => g.1.1) h

theorem recvDue_at (d c : Dev nD) (j : Fin 7) : recvDue d 0 (recvCell c j) () = if c = nxt j d then N else 0 := by
  unfold recvDue
  rw [sum_tally_apply, Finset.sum_eq_single j]
  · refine if_congr ⟨fun h => ?_, fun h => by rw [h]⟩ rfl rfl
    exact congrArg (fun g : GSem nD τ sig => g.1.1) h
  · intro i _ hi
    refine if_neg fun h => hi ?_
    have e := cell_dma_inj h
    rw [recvS_val, recvS_val] at e
    exact Fin.ext (by omega)
  · intro h; exact absurd (Finset.mem_filter.mpr ⟨Finset.mem_univ j, Nat.zero_le j.val⟩) h

theorem bar_ne_recv (c d : Dev nD) (j : Fin 7) : barCell c ≠ recvCell d j := fun h => by cases congrArg Prod.snd h

theorem sum_nxt (c : Dev nD) (i : Fin 7) (k : ℕ) : (∑ d : Dev nD, if c = nxt i d then k else 0) = k := by
  rw [show (fun d : Dev nD => if c = nxt i d then k else 0) = fun d => if c = around i d then k else 0 from rfl,
    Equiv.sum_comp (around i) (fun e => if c = e then k else 0), Finset.sum_ite_eq, if_pos (Finset.mem_univ _)]

/-- What all devices owe one barrier cell: a unit from each peer. -/
theorem bar_total (c : Dev nD) : (∑ d : Dev nD, O₀ d (barCell c) ()) = 7 := by
  have h (d : Dev nD) : O₀ d (barCell c) () = ∑ i : Fin 7, if c = nxt i d then 1 else 0 := by
    unfold O₀
    rw [Pi.add_apply, Finsupp.add_apply, barDue_at, Nat.eq_zero_of_not_pos fun h => (recvDue_pos h).elim fun i e => bar_ne_recv _ _ _ e, Nat.zero_add]
  rw [Finset.sum_congr rfl fun d _ => h d, Finset.sum_comm, Finset.sum_congr rfl fun i _ => sum_nxt c i 1]
  rfl

/-- What all devices owe one receiving cell: one copy's elements. -/
theorem recv_total (c : Dev nD) (j : Fin 7) : (∑ d : Dev nD, O₀ d (recvCell c j) ()) = N := by
  have h (d : Dev nD) : O₀ d (recvCell c j) () = if c = nxt j d then N else 0 := by
    unfold O₀
    rw [Pi.add_apply, Finsupp.add_apply, recvDue_at, Nat.eq_zero_of_not_pos (n := barDue d 0 (recvCell c j) ()) fun h => (barDue_pos h).elim fun i e => bar_ne_recv _ _ _ e.symm, Nat.add_zero]
  rw [Finset.sum_congr rfl fun d _ => h d, sum_nxt]

theorem launch_of_total (g : GSem nD τ sig) (k : ℕ) (h : (∑ d : Dev nD, O₀ d g ()) = k) :
    tallyOn g (launchCredit (Pipeline.owing O₀) 0 g) = (tallyAt g () k : CellTallies nD τ sig Unit) := by
  unfold tallyAt
  refine congrArg _ (Finsupp.ext fun u => ?_)
  rw [Pipeline.launchCredit_owing, Finsupp.single_eq_same, ← h]

def recvEmb : Fin 7 ↪ SemLoc sig := ⟨fun j => .dma (recvS j), fun a b h => Fin.ext (by
  have e := congrArg Fin.val (SemLoc.dma.inj h); rw [recvS_val, recvS_val] at e; omega)⟩

/-- The credit a device starts with. -/
theorem creds (c : Dev nD) : (Pipeline.launchCred O₀ c : sProp 𝕄)
    ⊢ iprop(cred (tallyAt (barCell c) () 7) ∗ bigSep Finset.univ fun j => cred (tallyAt (recvCell c j) () N)) := by
  have hm : (Finset.univ.map recvEmb) ⊆ Finset.univ.erase (SemLoc.reg barS : SemLoc sig) := by
    intro x hx
    obtain ⟨j, -, rfl⟩ := Finset.mem_map.mp hx
    exact Finset.mem_erase.mpr ⟨(fun h => by cases h), Finset.mem_univ _⟩
  have he : (bigSep Finset.univ fun j => cred (tallyAt (recvCell c j) () N) : sProp 𝕄)
      = bigSep (Finset.univ.map recvEmb) fun sm => cred (tallyOn ((c : Thread nD τ), sm) (launchCredit (Pipeline.owing O₀) 0 ((c : Thread nD τ), sm))) := by
    rw [bigSep_map]
    exact bigSep_congr fun j _ => congrArg cred (launch_of_total (recvCell c j) N (recv_total c j)).symm
  unfold Pipeline.launchCred
  rw [bigSep_univ_at _ (SemLoc.reg barS), launch_of_total (barCell c) 7 (bar_total c), he]
  exact sep_mono_right (bigSep_subset hm)

/-! ## The launch -/

/-- The protocol's whole launch element. -/
abbrev u_rounds := (launchOf barCells ownCells allToks : Rounds.URounds (GSem nD τ sig) (Fin 7))

/-- It is parked on device 0 until it is split. -/
def G (c : Dev nD) : sProp 𝕄 := if c = 0 then BI.own (ER u_rounds) else iprop(emp)

theorem G_all : bigSep Finset.univ (G (F := F)) = BI.own (ER u_rounds) := by
  have h : bigSep (Finset.univ.erase (0 : Dev nD)) (G (F := F)) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const]
  exact BI.equiv_iff.mp sep_emp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds as its program starts. -/
def entered (c : Dev nD) : sProp 𝕄 := iprop(unscopedBufs c (V m c) ∗ dealt m c ∗ ∃ W, owes (c : Thread nD τ) (O₀ c) W)

/-- What of it is not the protocol's. -/
def bundle (c : Dev nD) : sProp 𝕄 :=
  iprop(unscopedBufs c (V m c) ∗ (cred (tallyAt (barCell c) () 7) ∗ bigSep Finset.univ fun j => cred (tallyAt (recvCell c j) () N)) ∗ owes (c : Thread nD τ) (O₀ c) ∅)

theorem entered_intro (K : GSem nD τ sig → ℕ) (c : Dev nD) : iprop(records m K ∗ (rights c ∗ bundle m c)) ⊢ entered m c := by
  unfold bundle entered dealt
  iintro ⟨#HR, Hl, Hh, ⟨H1, HN⟩, HO⟩
  isplitl [Hh]; · iexact Hh
  isplitr [HO]
  · isplitl [Hl]
    · iexists K
      isplitr; · iexact HR
      iexact Hl
    isplitl [H1]; · iexact H1
    iexact HN
  · iexists ∅; iexact HO

variable (ρ : Dev nD → PrngReg)

/-- One device's part of the launch, sorted. -/
theorem sort_launch (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [unscopedSems0_eq]
  unfold bundle
  iintro ⟨Hh, Hus, HO, Hcr, -, HG⟩
  ihave Hc := (creds (F := F) c) $$ Hcr
  isplitl [Hh Hc HO]
  · isplitl [Hh]; · iexact Hh
    isplitl [Hc]; · iexact Hc
    iexact HO
  isplitl [Hus]; · iexact Hus
  iexact HG

/-- Every device's holdings at entry, from what the launch deals. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (entered m) : sProp 𝕄) := by
  have hs : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((bigSep Finset.univ fun c => bundle m c) ∗ (bigSep Finset.univ fun c => semVal (barCell c) 0) ∗ BI.own (ER u_rounds) : sProp 𝕄) := by
    rw [← G_all, ← bigSep_sep', ← bigSep_sep']
    exact bigSep_mono fun c _ => sort_launch m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : iprop(bigSep barCells (fun g => (atPos ER g 0 ∅ 0 : sProp 𝕄)) ∗ bigSep ownCells (fun g => (openTok ER g : sProp 𝕄))
      ∗ bigSep allToks (fun x => (dutyTok ER x.1 x.2.1 x.2.2 : sProp 𝕄))) ⊢ (bigSep Finset.univ fun c => rights c : sProp 𝕄) := by
    unfold rights
    rw [toks_dealt, bigSep_map, bigSep_map, bigSep_univ_prod, ← bigSep_sep', ← bigSep_sep']
    exact BI.Entails.refl _
  have hp (K : GSem nD τ sig → ℕ) : iprop(records m K ∗ (bigSep Finset.univ fun c => rights c) ∗ bigSep Finset.univ fun c => bundle m c)
      ⊢ (bigSep Finset.univ (entered m) : sProp 𝕄) := by
    rw [← bigSep_sep']
    exact bigSep_with_persistent fun c _ => entered_intro m K c
  iintro ⟨H, -⟩
  ihave H := hs $$ H
  icases H with ⟨HB, Hv, Hu⟩
  imod (Rounds.fund_launch ER (xRd m) disjoint_cells (fun g _ h => h) allToks) $$ [Hv Hu] with ⟨%K, -, #Hinv, #Hr, Hat, Hopen, Htok⟩
  · isplitl [Hv]
    · iapply hv $$ Hv
    · iexact Hu
  imodintro
  iapply (hp K)
  isplitr
  · unfold records
    isplitr; · iexact Hinv
    iexact Hr
  isplitr [HB]
  · iapply hr
    isplitl [Hat]; · iexact Hat
    isplitl [Hopen]; · iexact Hopen
    iexact Htok
  · iexact HB

end Cert.Proof

end
-- ==== Proof.Launch.lean ====
/-
  The run: every execution ends with the arguments as they were, the result in place and every semaphore at zero.
-/
module

public import Idealize.ShloMosaic.Lib.Pipeline.ValueKit
public import Idealize.ShloMosaic.Lib.Quiescent
public import proofs.«01_k».proof.Proof.Deal

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The launch element: the pipeline library's, and the exchange's. -/
def u₀ : UU :=
  (initOf (Pipeline.cells (Pipeline.pin (pcfgs (F := F)) adm) cellOf_inj) (Pipeline.launchToks (Pipeline.pin (pcfgs (F := F)) adm) cellOf_inj), u_rounds)

theorem unscoped_eq : ∀ sm : SemLoc sig, sm.isScoped .tc = false → sm = .reg barS := by decide

/-- The result array ends holding what the last point left. -/
theorem result_end (c : Dev nD) : (dat m c).arrAt 4 cfg0.N = outAt m c :=
  (dat m c).arrAt_eq_of_after_last 4 t0_3 (by decide +kernel) (outAt m c) fun _ => rfl

/-- What a device's final memory holds. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = outAt m c)
  ∧ s.sem (barCell c) = 0

/-- The final holdings, read against a final state. -/
theorem read_final (c : Dev nD) (s' : Phys nD τ sig (Elt F)) :
    iprop(ended m c ∗ SI s') ⊢ iprop(|={Set.univ}=> (⌜Final m c s'.mem⌝ ∗ SI s') : sProp 𝕄) := by
  unfold ended Dat.arrays
  rw [bigSep_W0, unscopedRest0_eq]
  iintro ⟨⟨⟨H0, H1, -, -, H4⟩, H2, Hb⟩, HSI⟩
  icombine HSI H0 gives %h0
  icombine HSI H1 gives %h1
  icombine HSI H2 gives %h2
  icombine HSI H4 gives %h4
  icombine HSI Hb gives %hb
  imodintro
  isplitr
  · ipureintro
    dsimp only at h0 h1 h4
    rw [(dat m c).arrAt_in 0 rfl, (arr_whole0 0).set_eq_univ] at h0
    rw [(dat m c).arrAt_in 1 rfl, (arr_whole0 1).set_eq_univ] at h1
    rw [result_end, (arr_whole0 4).set_eq_univ] at h4
    exact ⟨⟨Buf.eq_of_forall_mem_univ h0, Buf.eq_of_forall_mem_univ h1, Buf.eq_of_forall_mem_univ h2, Buf.eq_of_forall_mem_univ h4⟩, by simpa using hb⟩
  iexact HSI

variable (ρ : Dev nD → PrngReg)

set_option backward.isDefEq.respectTransparency.types false in
/-- From any memory with the semaphores at zero, every execution ends; then each device's arguments are as they were, its result is
    `outAt`, and every semaphore of the machine is at zero. -/
theorem run_main : θ_run (Cert.KernelIdeal.defs (F := F)) (onTc (τ := τ) (main (F := F))) ⟨m, fun _ => 0, ρ⟩
    (fun r => (∀ c : Dev nD, Final m c r.2) ∧ r.2.sem = fun _ => 0) :=
  Pipeline.θ_run_regions_kit_sems (pcfgs (F := F)) adm (pdats m) () cellOf_inj EP defs₀ 𝒱₀ L lv m ρ main [.region (region m)]
    (fun c Q => by rw [main_segs adm (pdats m) () 𝒱₀ L lv (region m) c])
    (by simp only [Pipeline.Seg.pipes_region, Pipeline.Seg.pipes_nil]; decide)
    (O₀ := O₀) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := entered m) (Tₙ := ended m)
    (hch := ⟨fun c => .rfl, fun c => .rfl⟩)
    (hinit := init m ρ)
    (QY := Final m)
    (hfin := read_final m)
    (hQ := fun s h hs => ⟨h, sem_eq_zero hs fun c sm hsm => by
      obtain rfl := unscoped_eq sm hsm
      exact (h c).2⟩)

end Cert.Proof

end
-- ==== Proof.Frames.lean ====
/-
  The three programs run: each ends, with its arguments as they were and every semaphore at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem

/-- The run over any float values: the arguments kept, every semaphore at zero. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run (Cert.KernelIdeal.defs (F := F)) _ _).mono
    (fun _ h => ⟨fun c => ⟨(h.1 c).1.1, (h.1 c).1.2.1, (h.1 c).1.2.2.1⟩, h.2⟩) (run_main m ρ)

/-- The kernel as printed and the idealized one have the same operations, so the same body. -/
theorem same_body : Cert.Kernel.defs₀ (F := Bits) = Cert.KernelIdeal.defs₀ (F := Bits) := by
  refine congrArg Defs.onTc ?_
  funext l x
  obtain ⟨l, h⟩ := l
  cases l with
  | zero => obtain ⟨t, s⟩ := x; rfl
  | succ n => exact absurd h (Nat.not_lt.2 (Nat.le_add_left _ _))

theorem same_defs : Cert.Kernel.defs (F := Bits) = Cert.KernelIdeal.defs (F := Bits) :=
  congrArg (Pipeline.defs (Cert.KernelIdeal.pcfgs (F := Bits))) same_body

/-- The kernel as printed. -/
theorem frame_kernel : Cert.quiescent_Kernel := fun m ρ _ => by
  have h := run_kept (F := Bits) m ρ
  rw [← same_defs] at h
  exact h

/-- The kernel over exact values. -/
theorem frame_ideal : Cert.quiescent_KernelIdeal := fun m ρ _ => run_kept (F := Ideal) m ρ

/-- The reference. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- No operation was rewritten. -/
theorem preserved : Cert.preserves_Kernel_KernelIdeal := trivial

end Cert.Proof

end
-- ==== Proof.RowMath.lean ====
/-
  The mathematics of one row, over the extended reals: its mean, its variance, its normalized entries, and what it adds
  to each of the two results.
-/
module

public import Idealize.ShloMosaic.Lib.Pointwise

@[expose] public section

noncomputable section

namespace Cert.Proof

open Idealize.ShloMosaic

/-- The row length, as the printed programs write it. -/
def len : EReal := Ideal.ofBits .f32 0x45000000#32

/-- The small constant added to the variance. -/
def eps : EReal := Ideal.ofBits .bf16 0x3728#16

/-- The row length is the real 2048. -/
theorem len_eq : len = ((2048 : ℝ) : EReal) := by
  simp [len, Ideal.ofBits, Ideal.ieee, -EReal.coe_mul]; norm_num

/-- The row length is positive. -/
theorem len_pos : 0 < len := by rw [len_eq]; exact EReal.coe_pos.mpr (by norm_num)

/-- The small constant is positive. -/
theorem eps_pos : 0 < eps := by
  have h : ∃ r : ℝ, eps = (r : EReal) ∧ 0 < r :=
    ⟨_, by simp [eps, Ideal.ofBits, Ideal.ieee, -EReal.coe_mul]; rfl, by positivity⟩
  obtain ⟨r, h, hr⟩ := h
  rw [h]; exact EReal.coe_pos.mpr hr

/-- A row's mean. -/
def mean (x : Fin 2048 → EReal) : EReal := Ideal.div (∑ k, x k) len

/-- A row's variance. -/
def variance (x : Fin 2048 → EReal) : EReal := Ideal.div (∑ k, (x k - mean x) * (x k - mean x)) len

/-- An extended real's square is not negative. -/
theorem square_nonneg (a : EReal) : 0 ≤ a * a := by
  induction a with
  | bot => simp
  | top => simp
  | coe r => exact_mod_cast mul_self_nonneg r

/-- The variance is not negative, whatever the row holds. -/
theorem variance_nonneg (x : Fin 2048 → EReal) : 0 ≤ variance x := by
  rw [variance, Ideal.div, if_neg len_pos.ne']
  exact mul_nonneg (Finset.sum_nonneg fun k _ => square_nonneg _) (EReal.inv_nonneg_of_nonneg len_pos.le)

/-- What is under the root is positive. -/
theorem under_pos (x : Fin 2048 → EReal) : 0 < variance x + eps :=
  lt_of_lt_of_le eps_pos (le_add_of_nonneg_left (variance_nonneg x))

/-- The reciprocal root of a positive number is one over its root. -/
theorem rsqrt_eq {y : EReal} (h : 0 < y) : Ideal.rsqrt y = Ideal.div 1 (Ideal.sqrt y) := by
  induction y with
  | bot => simp at h
  | top =>
    have h₁ : Ideal.rsqrt ⊤ = 0 := rfl
    have h₂ : Ideal.sqrt ⊤ = ⊤ := rfl
    simp [h₁, h₂, Ideal.div]
  | coe r =>
    have hr : 0 < r := EReal.coe_pos.mp h
    have h₁ : Ideal.rsqrt (r : EReal) = (((Real.sqrt r)⁻¹ : ℝ) : EReal) := by
      change (if r < 0 then ⊥ else if r = 0 then ⊤ else (((Real.sqrt r)⁻¹ : ℝ) : EReal)) = _
      rw [if_neg (not_lt.mpr hr.le), if_neg hr.ne']
    have h₂ : Ideal.sqrt (r : EReal) = ((Real.sqrt r : ℝ) : EReal) := by
      change (if r < 0 then ⊥ else ((Real.sqrt r : ℝ) : EReal)) = _
      rw [if_neg (not_lt.mpr hr.le)]
    have h₃ : ((Real.sqrt r : ℝ) : EReal) ≠ 0 := (EReal.coe_pos.mpr (Real.sqrt_pos.mpr hr)).ne'
    rw [h₁, h₂, Ideal.div, if_neg h₃, one_mul, EReal.coe_inv]

/-- A row's reciprocal standard deviation. -/
def rstd (x : Fin 2048 → EReal) : EReal := Ideal.rsqrt (variance x + eps)

/-- The reciprocal standard deviation as one over the root. -/
theorem rstd_eq (x : Fin 2048 → EReal) : rstd x = Ideal.div 1 (Ideal.sqrt (variance x + eps)) := rsqrt_eq (under_pos x)

/-- What the row `x` with the gradient row `dy` adds to the result's row `b` at column `k`: to row 0 the gradient times
    the normalized entry, to row 1 the gradient. -/
def term (b : Fin 2) (x dy : Fin 2048 → EReal) (k : Fin 2048) : EReal :=
  if b = 0 then dy k * ((x k - mean x) * rstd x) else dy k

end Cert.Proof

end
-- ==== Proof.BlockValue.lean ====
/-
  One grid point's change of the accumulator, read at an element: two blocks' rows are added.
-/
module

public import Idealize.ShloMosaic.Lib.Pointwise
public import proofs.«01_k».proof.Proof.Contents
public import proofs.«01_k».proof.Proof.RowMath

@[expose] public section

noncomputable section

namespace Cert.Proof

open Cert.KernelIdeal Cert.KernelIdeal.Gen

open Idealize.ShloMosaic
open Idealize.ShloMosaic.TcCoe

/-- What a block of 512 rows adds to the result at `(b, k)`. -/
def blockSum (b : Fin 2) (k : Fin 2048) (x dy : Vec Ideal S512x2048 .bf16) : EReal :=
  ∑ r : Fin 512, term b (fun q => x (ix2 r q)) (fun q => dy (ix2 r q)) k

set_option maxRecDepth 16384 in
/-- The first block's sums of normalized entries, at a column. -/
theorem pay8_apply (x dy : Vec Ideal S512x2048 .bf16) (k : Fin 2048) :
    k0_pay8 (F := Ideal) x dy (ix2 0 k) = blockSum 0 k x dy := by
  pointwise [k0_pay8, k0_pay7]
  rfl

set_option maxRecDepth 16384 in
/-- The first block's sums of gradients, at a column. -/
theorem pay9_apply (x dy : Vec Ideal S512x2048 .bf16) (k : Fin 2048) :
    k0_pay9 (F := Ideal) dy (ix2 0 k) = blockSum 1 k x dy := by
  pointwise [k0_pay9, k0_pay7]
  rfl

set_option maxRecDepth 16384 in
/-- The first addition reads row 0 from the one row of sums and row 1 from the other. -/
theorem pay10_apply (a : Vec Ideal S2x2048 .f32) (u v : Vec Ideal S1x2048 .bf16) (b : Fin 2) (k : Fin 2048) :
    k0_pay10 (F := Ideal) a u v (ix2 b k) = a (ix2 b k) + (if b = 0 then u (ix2 0 k) else v (ix2 0 k)) := by
  pointwise [k0_pay10]
  fin_cases b <;> rfl

set_option maxRecDepth 16384 in
/-- The second addition is the first, at the second pair of blocks. -/
theorem pay11_eq (a : Vec Ideal S2x2048 .f32) (x dy : Vec Ideal S512x2048 .bf16) (b : Fin 2) (k : Fin 2048) :
    k0_pay11 (F := Ideal) a x dy (ix2 b k) = k0_pay10 (F := Ideal) a (k0_pay8 x dy) (k0_pay9 dy) (ix2 b k) := by
  pointwise [k0_pay11, k0_pay10, k0_pay8, k0_pay9, k0_pay7]

/-- An addition of a pair of blocks' sums, at an element. -/
theorem added_apply (a : Vec Ideal S2x2048 .f32) (x dy : Vec Ideal S512x2048 .bf16) (b : Fin 2) (k : Fin 2048) :
    k0_pay10 (F := Ideal) a (k0_pay8 x dy) (k0_pay9 dy) (ix2 b k) = a (ix2 b k) + blockSum b k x dy := by
  rw [pay10_apply, pay8_apply, pay9_apply x dy]
  fin_cases b <;> rfl

/-- A grid point adds the sums of its two pairs of blocks. -/
theorem accStep_apply (a : Vec Ideal S2x2048 .f32) (x dy xb dyb : Vec Ideal S512x2048 .bf16) (b : Fin 2) (k : Fin 2048) :
    accStep a x dy xb dyb (ix2 b k) = a (ix2 b k) + blockSum b k x dy + blockSum b k xb dyb := by
  have h (v : Vec Ideal S2x2048 .f32) : k0_pay1 (F := Ideal) v (ix2 b k) = v (ix2 b k) := by pointwise [k0_pay1]
  rw [accStep, h, pay11_eq, added_apply, added_apply]

/-- The reset accumulator is zero. -/
theorem reset_apply (b : Fin 2) (k : Fin 2048) : k0_pay6 (F := Ideal) (ix2 b k) = 0 := by pointwise [k0_pay6]

/-- The result adds the seven contributions to the device's own sums. -/
theorem combine_apply (a : Vec Ideal S2x2048 .f32) (s : Fin 7 → Vec Ideal S1x2x2048 .f32) (b : Fin 2) (k : Fin 2048) :
    combine a s (ix2 b k) = a (ix2 b k) + ∑ j, s j (ix3 0 b k) := by
  rw [combine]
  pointwise [k0_pay2, k0_pay3, k0_pay4, k0_pay5]
  simp only [Fin.sum_univ_seven, add_assoc]

/-- A contribution in its slot's shape holds what the accumulator does. -/
theorem lifted_apply (a : Vec Ideal S2x2048 .f32) (b : Fin 2) (k : Fin 2048) : lifted a (ix3 0 b k) = a (ix2 b k) := by
  unfold lifted
  congr 1
  rw [Equiv.symm_apply_eq]
  pointwise

end Cert.Proof

end
-- ==== Proof.KernelValue.lean ====
/-
  A device's partial sums and the result, read at an element: sums over rows, of the device's part of the arguments and
  of every device's.
-/
module

public import proofs.«01_k».proof.Proof.BlockValue

@[expose] public section

noncomputable section

namespace Cert.Proof

open Cert.KernelIdeal Cert.KernelIdeal.Gen

open Idealize.ShloMosaic
open Idealize.ShloMosaic.TcCoe

/-- A sum over `p * q` rows, block by block. -/
theorem sum_blocks (p q : ℕ) (f : Fin (p * q) → EReal) :
    ∑ R, f R = ∑ i : Fin p, ∑ r : Fin q, f ⟨i.val * q + r.val, by
      calc i.val * q + r.val < i.val * q + q := Nat.add_lt_add_left r.isLt _
        _ = (i.val + 1) * q := (Nat.succ_mul _ _).symm
        _ ≤ p * q := Nat.mul_le_mul_right q i.isLt⟩ := by
  rw [← finProdFinEquiv.sum_comp, Fintype.sum_prod_type]
  refine Finset.sum_congr rfl fun i _ => Finset.sum_congr rfl fun r _ => congrArg f (Fin.ext ?_)
  simp [finProdFinEquiv, Nat.mul_comm, Nat.add_comm]

/-! ## The blocks the windows read -/

section Blocks

variable {F : FTy → Type} [FloatOps F] (m : (ℓ : Loc nD τ sig) → Buf (Elt F) ℓ)

/-- The row of a device's part that row `r` of its block `i` is. -/
def partRow (i : Fin 8) (r : Fin 512) : Fin 4096 := ⟨i.val * 512 + r.val, by omega⟩

/-- Block `i` of a device's part of an argument. -/
def rowsAt (a : Vec F S4096x2048 .bf16) (i : Fin 8) : Vec F S512x2048 .bf16 := fun y => a (ix2 (partRow i (y 0)) (y 1))

/-- The first window reads block `t` of the first argument. -/
theorem iblk_0 (c : Dev nD) (t : Fin cfg0.N) (i : Fin 8) (hi : i.val = t.val) :
    (iblk m c 0 t : Vec F S512x2048 .bf16) = rowsAt (m ((c.tc : Thread nD τ).loc main_arg0)) i := by
  have h : win0_0.index t 0 = t.val ∧ win0_0.index t 1 = 0 := by clear hi; revert t; decide
  funext y
  unfold iblk rowsAt
  rw [View.read_apply]
  show V m c main_arg0 _ = m (c.tc.loc main_arg0) _
  congr 1
  funext a
  apply Fin.ext
  match a with
  | ⟨0, _⟩ => show win0_0.index t 0 * 512 + 1 * (y 0).val = i.val * 512 + (y 0).val; rw [h.1]; omega
  | ⟨1, _⟩ => show win0_0.index t 1 * 2048 + 1 * (y 1).val = (y 1).val; rw [h.2]; omega

/-- The second window reads block `t` of the second argument. -/
theorem iblk_1 (c : Dev nD) (t : Fin cfg0.N) (i : Fin 8) (hi : i.val = t.val) :
    (iblk m c 1 t : Vec F S512x2048 .bf16) = rowsAt (m ((c.tc : Thread nD τ).loc main_arg1)) i := by
  have h : win0_1.index t 0 = t.val ∧ win0_1.index t 1 = 0 := by clear hi; revert t; decide
  funext y
  unfold iblk rowsAt
  rw [View.read_apply]
  show V m c main_arg1 _ = m (c.tc.loc main_arg1) _
  congr 1
  funext a
  apply Fin.ext
  match a with
  | ⟨0, _⟩ => show win0_1.index t 0 * 512 + 1 * (y 0).val = i.val * 512 + (y 0).val; rw [h.1]; omega
  | ⟨1, _⟩ => show win0_1.index t 1 * 2048 + 1 * (y 1).val = (y 1).val; rw [h.2]; omega

/-- The third window reads block `t + 4` of the first argument. -/
theorem iblk_2 (c : Dev nD) (t : Fin cfg0.N) (i : Fin 8) (hi : i.val = t.val + 4) :
    (iblk m c 2 t : Vec F S512x2048 .bf16) = rowsAt (m ((c.tc : Thread nD τ).loc main_arg0)) i := by
  have h : win0_2.index t 0 = t.val + 4 ∧ win0_2.index t 1 = 0 := by clear hi; revert t; decide
  funext y
  unfold iblk rowsAt
  rw [View.read_apply]
  show V m c main_arg0 _ = m (c.tc.loc main_arg0) _
  congr 1
  funext a
  apply Fin.ext
  match a with
  | ⟨0, _⟩ => show win0_2.index t 0 * 512 + 1 * (y 0).val = i.val * 512 + (y 0).val; rw [h.1]; omega
  | ⟨1, _⟩ => show win0_2.index t 1 * 2048 + 1 * (y 1).val = (y 1).val; rw [h.2]; omega

/-- The fourth window reads block `t + 4` of the second argument. -/
theorem iblk_3 (c : Dev nD) (t : Fin cfg0.N) (i : Fin 8) (hi : i.val = t.val + 4) :
    (iblk m c 3 t : Vec F S512x2048 .bf16) = rowsAt (m ((c.tc : Thread nD τ).loc main_arg1)) i := by
  have h : win0_3.index t 0 = t.val + 4 ∧ win0_3.index t 1 = 0 := by clear hi; revert t; decide
  funext y
  unfold iblk rowsAt
  rw [View.read_apply]
  show V m c main_arg1 _ = m (c.tc.loc main_arg1) _
  congr 1
  funext a
  apply Fin.ext
  match a with
  | ⟨0, _⟩ => show win0_3.index t 0 * 512 + 1 * (y 0).val = i.val * 512 + (y 0).val; rw [h.1]; omega
  | ⟨1, _⟩ => show win0_3.index t 1 * 2048 + 1 * (y 1).val = (y 1).val; rw [h.2]; omega

end Blocks

/-! ## The sums -/

variable (m : (ℓ : Loc nD τ sig) → Buf (Elt Ideal) ℓ)

/-- What a device's part of the arguments adds to the result at `(b, k)`. -/
def partSum (b : Fin 2) (k : Fin 2048) (x dy : Vec Ideal S4096x2048 .bf16) : EReal :=
  ∑ R : Fin 4096, term b (fun q => x (ix2 R q)) (fun q => dy (ix2 R q)) k

/-- A part's sum, block by block. -/
theorem partSum_eq (b : Fin 2) (k : Fin 2048) (x dy : Vec Ideal S4096x2048 .bf16) :
    partSum b k x dy = ∑ i : Fin 8, blockSum b k (rowsAt x i) (rowsAt dy i) :=
  sum_blocks 8 512 fun R => term b (fun q => x (ix2 R q)) (fun q => dy (ix2 R q)) k

/-- Grid point `t` adds blocks `i` and `j` of the device's part, for `i = t` and `j = t + 4`. -/
theorem point_apply (c : Dev nD) (t : Fin cfg0.N) (i j : Fin 8) (hi : i.val = t.val) (hj : j.val = t.val + 4)
    (b : Fin 2) (k : Fin 2048) :
    accAt m c (t.val + 1) (ix2 b k) = accAt m c t.val (ix2 b k) +
      blockSum b k (rowsAt (m ((c.tc : Thread nD τ).loc main_arg0)) i) (rowsAt (m ((c.tc : Thread nD τ).loc main_arg1)) i) +
      blockSum b k (rowsAt (m ((c.tc : Thread nD τ).loc main_arg0)) j) (rowsAt (m ((c.tc : Thread nD τ).loc main_arg1)) j) := by
  rw [accAt_succ, accStep_apply, iblk_0 m c t i hi, iblk_1 m c t i hi, iblk_2 m c t j hj, iblk_3 m c t j hj]

/-- A device's partial sums are the sums over its part's rows. -/
theorem accFin_apply (c : Dev nD) (b : Fin 2) (k : Fin 2048) :
    accFin m c (ix2 b k) =
      partSum b k (m ((c.tc : Thread nD τ).loc main_arg0)) (m ((c.tc : Thread nD τ).loc main_arg1)) := by
  have h₀ := point_apply m c ⟨0, by decide⟩ 0 4 rfl rfl b k
  have h₁ := point_apply m c ⟨1, by decide⟩ 1 5 rfl rfl b k
  have h₂ := point_apply m c ⟨2, by decide⟩ 2 6 rfl rfl b k
  have h₃ := point_apply m c ⟨3, by decide⟩ 3 7 rfl rfl b k
  have hz : accAt m c 0 (ix2 b k) = 0 := reset_apply b k
  dsimp only at h₀ h₁ h₂ h₃
  rw [partSum_eq, accFin, h₃, h₂, h₁, h₀, hz, Fin.sum_univ_eight, zero_add]
  ac_rfl

/-- The device itself and the seven before it are all the devices. -/
theorem sum_devices (c : Dev nD) (f : Dev nD → EReal) : f c + ∑ j : Fin 7, f (prv j c) = ∑ d : Dev nD, f d := by
  have hi : Function.Injective fun j : Fin 7 => prv j c := by revert c; decide
  have hu : (Finset.univ : Finset (Dev nD)) = insert c (Finset.univ.image fun j : Fin 7 => prv j c) := by
    revert c; decide
  have hc : c ∉ Finset.univ.image fun j : Fin 7 => prv j c := by revert c; decide
  rw [hu, Finset.sum_insert hc, Finset.sum_image fun _ _ _ _ h => hi h]

/-- The result on every device is the sum of all the devices' partial sums. -/
theorem outAt_apply (c : Dev nD) (b : Fin 2) (k : Fin 2048) :
    outAt m c (ix2 b k) =
      ∑ d : Dev nD, partSum b k (m ((d.tc : Thread nD τ).loc main_arg0)) (m ((d.tc : Thread nD τ).loc main_arg1)) := by
  rw [outAt, combine_apply, accFin_apply]
  simp only [lifted_apply, accFin_apply]
  exact sum_devices c fun d =>
    partSum b k (m ((d.tc : Thread nD τ).loc main_arg0)) (m ((d.tc : Thread nD τ).loc main_arg1))

end Cert.Proof

end
-- ==== Proof.ReferenceValue.lean ====
/-
  The reference's result, read at an element: sums over all the rows of the arguments.
-/
module

public import Idealize.ShloMosaic.Lib.Pointwise
public import proofs.«01_k».proof.Proof.Gen.ReferenceIdeal.Run
public import proofs.«01_k».proof.Proof.RowMath

@[expose] public section

noncomputable section

namespace Cert.Proof

open Cert.ReferenceIdeal Cert.ReferenceIdeal.Gen

open Idealize.ShloMosaic Idealize.SL.Sem
open Idealize.ShloMosaic.TcCoe

/-- The sum over all the rows at `(b, k)`. -/
def wholeSum (b : Fin 2) (k : Fin 2048) (x dy : Vec Ideal S32768x2048 .bf16) : EReal :=
  ∑ R : Fin 32768, term b (fun q => x (ix2 R q)) (fun q => dy (ix2 R q)) k

/-- The result both programs compute. -/
def sums (x dy : Vec Ideal S32768x2048 .bf16) : Vec Ideal S2x2048 .f32 := fun y => wholeSum (y 0) (y 1) x dy

/-- The correction the reference takes off the row length is zero. -/
theorem correction_zero : FloatOps.sitofp (F := Ideal) .f32 (0#32) = 0 := by
  show (((0#32 : BitVec 32).toInt : ℝ) : EReal) = 0
  simp

set_option maxRecDepth 16384 in
/-- The reference ends with the sums over all the rows, its arguments unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) =
        sums (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨(h c).1.trans ?_, (h c).2⟩) (Value.run (F := Ideal) m ρ)
  funext y
  obtain ⟨b, k, rfl⟩ : ∃ (b : Fin 2) (k : Fin 2048), y = ix2 b k := ⟨y 0, y 1, eq_ix2 y⟩
  generalize m ((c.tc : Thread nD τ).loc main_arg0) = x
  generalize m ((c.tc : Thread nD τ).loc main_arg1) = dy
  pointwise [sums]
  simp only [correction_zero, sub_zero, if_pos (show 0 < Ideal.ofBits .f32 0x45000000#32 from len_pos)]
  unfold wholeSum
  fin_cases b
  · simp only [term, rstd_eq]; rfl
  · rfl

end Cert.Proof

end
-- ==== Proof.Value.lean ====
/-
  The value claim: every device's result is the reference's, when the devices hold the eight row blocks of its arguments.
-/
module

public import proofs.«01_k».proof.Defs
public import proofs.«01_k».proof.Proof.KernelValue
public import proofs.«01_k».proof.Proof.Launch
public import proofs.«01_k».proof.Proof.ReferenceValue

@[expose] public section

noncomputable section

namespace Cert.Proof

open Idealize.ShloMosaic Idealize.SL.Sem
open Idealize.ShloMosaic.TcCoe

/-- The sum over all the rows is the sum over the devices of the sums over their parts. -/
theorem wholeSum_eq (b : Fin 2) (k : Fin 2048) (x dy : Vec Ideal ⟨2, ![32768, 2048]⟩ .bf16) :
    wholeSum b k x dy = ∑ d : Fin 8, partSum b k (Layout.block ⟨2, ![4096, 2048]⟩ ⟨2, ![32768, 2048]⟩ 0 8 d x)
      (Layout.block ⟨2, ![4096, 2048]⟩ ⟨2, ![32768, 2048]⟩ 0 8 d dy) := by
  refine (sum_blocks 8 4096 fun R => term b (fun q => x (ix2 R q)) (fun q => dy (ix2 R q)) k).trans ?_
  refine Finset.sum_congr rfl fun d _ => Finset.sum_congr rfl fun r _ => ?_
  have h (v : Vec Ideal ⟨2, ![32768, 2048]⟩ .bf16) (q : Fin 2048) (hr : d.val * 4096 + r.val < 32768) :
      v (ix2 ⟨d.val * 4096 + r.val, hr⟩ q) =
        Layout.block ⟨2, ![4096, 2048]⟩ ⟨2, ![32768, 2048]⟩ 0 8 d v (by decide) (ix2 r q) := by
    rw [Layout.block_apply]
    congr 1
    funext a
    apply Fin.ext
    match a with
    | ⟨0, _⟩ => rfl
    | ⟨1, _⟩ => rfl
  simp only [h]

/-- The two programs end with one result. -/
theorem algebraic : Cert.algebraic_KernelIdeal_ReferenceIdeal := by
  intro m g m' g' _ hm
  refine ⟨sums (m' (((0 : Dev 1).tc : Thread _ _).loc Cert.ReferenceIdeal.main_arg0))
    (m' (((0 : Dev 1).tc : Thread _ _).loc Cert.ReferenceIdeal.main_arg1)), ?_, ?_⟩
  · refine (θ_run (Cert.KernelIdeal.defs (F := Ideal)) _ _).mono (fun r h c => ?_) (run_main (F := Ideal) m g)
    obtain ⟨⟨h₀, h₁, h₂, hv⟩, -⟩ := h.1 c
    refine ⟨hv.trans ?_, h₀, h₁, h₂⟩
    funext y
    obtain ⟨b, k, rfl⟩ : ∃ (b : Fin 2) (k : Fin 2048), y = ix2 b k := ⟨y 0, y 1, eq_ix2 y⟩
    refine (outAt_apply m c b k).trans (Eq.trans ?_ (wholeSum_eq b k _ _).symm)
    refine Finset.sum_congr rfl fun d _ => ?_
    rw [(hm d).1, (hm d).2.1]
  · exact (θ_run (Cert.ReferenceIdeal.defs (F := Ideal)) _ _).mono (fun r h => h 0) (run_reference m' g')

end Cert.Proof

end
-- ==== Proof.lean ====
/-
  The certificate: the claims of proof/Defs.lean, put together.
-/
module

public import proofs.«01_k».proof.Defs
public import proofs.«01_k».proof.Proof.Frames
public import proofs.«01_k».proof.Proof.Value

@[expose] public section

noncomputable section

namespace Cert.Proof

/-- The claim of the certificate. -/
theorem claim : Cert.Claim := ⟨Cert.Kernel.Gen.facts, Cert.KernelIdeal.Gen.facts, Cert.ReferenceIdeal.Gen.facts,
  frame_kernel, frame_ideal, frame_reference, preserved, algebraic⟩

end Cert.Proof

end
